-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x5120 : Shape := ⟨3, ![64, 1, 5120]⟩
abbrev S27648x5120 : Shape := ⟨2, ![27648, 5120]⟩
abbrev S27648 : Shape := ⟨1, ![27648]⟩
abbrev S64x5120 : Shape := ⟨2, ![64, 5120]⟩
abbrev S1x27648 : Shape := ⟨2, ![1, 27648]⟩
abbrev S64x27648 : Shape := ⟨2, ![64, 27648]⟩
abbrev S1x64 : Shape := ⟨2, ![1, 64]⟩
abbrev S1024x5120 : Shape := ⟨2, ![1024, 5120]⟩
abbrev S1x1024 : Shape := ⟨2, ![1, 1024]⟩
abbrev S64x1024 : Shape := ⟨2, ![64, 1024]⟩
abbrev S64x128 : Shape := ⟨2, ![64, 128]⟩
abbrev S64 : Shape := ⟨1, ![64]⟩
abbrev S64x1 : Shape := ⟨2, ![64, 1]⟩
abbrev S128x64 : Shape := ⟨2, ![128, 64]⟩
abbrev S64x1x27648 : Shape := ⟨3, ![64, 1, 27648]⟩

abbrev nBuf : Space → Nat
  | .hbm => 11
  | .vmem => 10
  | .smem => 0
  | _ => 0

abbrev bufTy : (tb : Table) → Fin (tcTables nBuf tb) → BufTy
  | .hbm, ⟨0, _⟩ => ⟨S64x1x5120, .bf16⟩
  | .hbm, ⟨1, _⟩ => ⟨S27648x5120, .fp8e4m3⟩
  | .hbm, ⟨2, _⟩ => ⟨S27648, .f32⟩
  | .hbm, ⟨3, _⟩ => ⟨S64x5120, .bf16⟩
  | .hbm, ⟨4, _⟩ => ⟨S1x27648, .f32⟩
  | .hbm, ⟨5, _⟩ => ⟨S64x27648, .bf16⟩
  | .hbm, ⟨6, _⟩ => ⟨S64x5120, .fp8e4m3⟩
  | .hbm, ⟨7, _⟩ => ⟨S1x64, .f32⟩
  | .hbm, ⟨8, _⟩ => ⟨S64x1x27648, .bf16⟩
  | .hbm, ⟨9, _⟩ => ⟨S64x1x5120, .fp8e4m3⟩
  | .hbm, ⟨10, _⟩ => ⟨S64x1, .f32⟩
  | .local _ .vmem, ⟨0, _⟩ => ⟨S64x5120, .bf16⟩
  | .local _ .vmem, ⟨1, _⟩ => ⟨S1024x5120, .fp8e4m3⟩
  | .local _ .vmem, ⟨2, _⟩ => ⟨S1024x5120, .fp8e4m3⟩
  | .local _ .vmem, ⟨3, _⟩ => ⟨S1x1024, .f32⟩
  | .local _ .vmem, ⟨4, _⟩ => ⟨S1x1024, .f32⟩
  | .local _ .vmem, ⟨5, _⟩ => ⟨S64x1024, .bf16⟩
  | .local _ .vmem, ⟨6, _⟩ => ⟨S64x1024, .bf16⟩
  | .local _ .vmem, ⟨7, _⟩ => ⟨S64x5120, .fp8e4m3⟩
  | .local _ .vmem, ⟨8, _⟩ => ⟨S1x64, .f32⟩
  | .local _ .vmem, ⟨9, _⟩ => ⟨S64x128, .f32⟩
  | _, _ => ⟨S64x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S64x1x5120 : Shape := ⟨3, ![64, 1, 5120]⟩
abbrev S27648x5120 : Shape := ⟨2, ![27648, 5120]⟩
abbrev S27648 : Shape := ⟨1, ![27648]⟩
abbrev S64x5120 : Shape := ⟨2, ![64, 5120]⟩
abbrev S1x27648 : Shape := ⟨2, ![1, 27648]⟩
abbrev S64x27648 : Shape := ⟨2, ![64, 27648]⟩
abbrev S1x64 : Shape := ⟨2, ![1, 64]⟩
abbrev S64 : Shape := ⟨1, ![64]⟩
abbrev S64x1 : Shape := ⟨2, ![64, 1]⟩
abbrev S64x1x27648 : Shape := ⟨3, ![64, 1, 27648]⟩

abbrev nBuf : Space → Nat
  | .hbm => 11
  | .vmem => 6
  | .smem => 0
  | _ => 0

abbrev bufTy : (tb : Table) → Fin (tcTables nBuf tb) → BufTy
  | .hbm, ⟨0, _⟩ => ⟨S64x1x5120, .bf16⟩
  | .hbm, ⟨1, _⟩ => ⟨S27648x5120, .fp8e4m3⟩
  | .hbm, ⟨2, _⟩ => ⟨S27648, .f32⟩
  | .hbm, ⟨3, _⟩ => ⟨S64x5120, .bf16⟩
  | .hbm, ⟨4, _⟩ => ⟨S1x27648, .f32⟩
  | .hbm, ⟨5, _⟩ => ⟨S64x27648, .bf16⟩
  | .hbm, ⟨6, _⟩ => ⟨S64x5120, .fp8e4m3⟩
  | .hbm, ⟨7, _⟩ => ⟨S1x64, .f32⟩
  | .hbm, ⟨8, _⟩ => ⟨S64x1x27648, .bf16⟩
  | .hbm, ⟨9, _⟩ => ⟨S64x1x5120, .fp8e4m3⟩
  | .hbm, ⟨10, _⟩ => ⟨S64x1, .f32⟩
  | .local _ .vmem, ⟨0, _⟩ => ⟨S64x5120, .bf16⟩
  | .local _ .vmem, ⟨1, _⟩ => ⟨S27648x5120, .fp8e4m3⟩
  | .local _ .vmem, ⟨2, _⟩ => ⟨S1x27648, .f32⟩
  | .local _ .vmem, ⟨3, _⟩ => ⟨S64x27648, .bf16⟩
  | .local _ .vmem, ⟨4, _⟩ => ⟨S64x5120, .fp8e4m3⟩
  | .local _ .vmem, ⟨5, _⟩ => ⟨S1x64, .f32⟩
  | _, _ => ⟨S64x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S64x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27648x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x27648 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x27648 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelBody.lean ====
module

public import proofs.«01_k».proof.Proof.Gen.KernelIdeal.Skeleton
public import proofs.«01_k».proof.Proof.Gen.KernelIdeal.Frame
public import Idealize.ShloMosaic.Lib.VecWindow
public import Idealize.ShloMosaic.Lib.Pipeline.Value

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The codes the first grid point computes from the rows `x`. -/
def codes (x : Vec F S64x5120 .bf16) : Vec F S64x5120 .fp8e4m3 :=
  k0_pay15 (k0_pay4 x) (k0_pay5 x)
    (k0_pay11 (k0_pay6 x) (k0_pay7 x) (k0_pay8 x) k0_pay9)
    (k0_pay12 (k0_pay6 x) (k0_pay7 x) (k0_pay8 x) k0_pay9)

/-- The scale of each row of `x`, as a column. -/
def scale (x : Vec F S64x5120 .bf16) : FVec F S64x1 .f32 :=
  k0_pay14 (k0_pay5 x)
    (k0_pay11 (k0_pay6 x) (k0_pay7 x) (k0_pay8 x) k0_pay9)
    (k0_pay12 (k0_pay6 x) (k0_pay7 x) (k0_pay8 x) k0_pay9)

/-- The block of outputs depends on its four operands only. -/
theorem pay3_congr {a a' : Vec F S64x5120 .fp8e4m3} {b b' : Vec F S1024x5120 .fp8e4m3} {s s' : Vec F S64x1 .f32} {w w' : Vec F S1x1024 .f32}
    (ha : a = a') (hb : b = b') (hs : s = s') (hw : w = w') : k0_pay3 a b s w = k0_pay3 a' b' s' w' := by rw [ha, hb, hs, hw]

/-- The scratch holds every row's scale in all its lanes: its first column is the column of scales. -/
theorem col_of_scratch (s : FVec F S64x1 .f32) (y : S64x1.Idx) :
    k0_pay1 s ((Rect.unit (s := S64x128) ![0, 0] S64x1.size inb_S64x128_S64x1_0_0).idx y) = s y := by
  simp only [k0_pay1, shapeCast_self]
  refine broadcastTo_apply _ _ _ y ?_
  intro a
  match a with
  | ⟨0, _⟩ => show (y 0).val = 0 + 1 * (y 0).val; omega
  | ⟨1, _⟩ => show (y 1).val = 0; have h : (y 1).val < 1 := (y 1).isLt; omega

/-- Loading the first column of the scratch after it was stored whole reads the column of scales. -/
theorem readCov_col {sig : RefSig} {κ : Kind} {sp : Space} (v : View sig κ sp S64x128 .f32) (s : FVec F S64x1 .f32)
    (inb' : ∀ a, (![0, 0] : Fin 2 → ℕ) a + S64x128.size a ≤ S64x128.size a) :
    v.readCov (Val := Elt F) [⟨Rect.unit (s := S64x128) ![0, 0] S64x128.size inb', k0_pay1 s⟩]
      (Rect.unit (s := S64x128) ![0, 0] S64x1.size inb_S64x128_S64x1_0_0).toLoadRect = s := by
  funext y
  refine (congrFun (View.read_writes_full (Val := Elt F) v v.junk inb' (k0_pay1 s) []) ((Rect.unit (s := S64x128) ![0, 0] S64x1.size inb_S64x128_S64x1_0_0).idx y)).trans (col_of_scratch s y)

set_option maxHeartbeats 1000000 in
/-- The body at the first grid point: it quantises the rows, stores codes, scales and scratch, and computes its block of outputs from
    what it just stored. -/
theorem runA (c : Dev nD) (i : grid0.Coords) (arg1 : Memref sig .tc .vmem S64x5120 .bf16) (harg1 : arg1.IsWhole) (arg2 : Memref sig .tc .vmem S1024x5120 .fp8e4m3) (harg2 : arg2.IsWhole) (arg3 : Memref sig .tc .vmem S1x1024 .f32) (harg3 : arg3.IsWhole) (arg4 : Memref sig .tc .vmem S64x1024 .bf16) (harg4 : arg4.IsWhole) (arg5 : Memref sig .tc .vmem S64x5120 .fp8e4m3) (harg5 : arg5.IsWhole) (arg6 : Memref sig .tc .vmem S1x64 .f32) (harg6 : arg6.IsWhole) (arg7 : Memref sig .tc .vmem S64x128 .f32) (harg7 : arg7.IsWhole) (hc0 : k0_cond1 i = 1#1)
    (x0 : Vec F S64x5120 .bf16) (x1 : Vec F S1024x5120 .fp8e4m3) (x2 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare (k0_pay3 (codes x0) x1 (scale x0) x2) ∗ owns (c : Thread nD τ) arg5 fullShare (codes x0) ∗ owns (c : Thread nD τ) arg6 fullShare (k0_pay2 (scale x0)) ∗ owns (c : Thread nD τ) arg7 fullShare (k0_pay1 (scale x0))) -∗ K ⟨⟩))
          ⊢ wp frame (wpE (defs₀ (F := F)) Variants.none c none) E (cc0_fp8_rowwise_linear i arg1 harg1 arg2 harg2 arg3 harg3 arg4 harg4 arg5 harg5 arg6 harg6 arg7 harg7) K := by
    intro E K
    simp only [cc0_fp8_rowwise_linear_eq_skeleton]; unfold cc0_fp8_rowwise_linear_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    have e0 : View.readAt (Elt F) arg1.view (Rect.unit ![0, 0] S64x5120.size inb_S64x5120_S64x5120_0_0).toLoadRect (harg1.unread x0) = x0 :=
      (View.readAt_full _ _ _).trans hf0
    have e1 : View.readAt (Elt F) arg2.view (Rect.unit ![0, 0] S1024x5120.size inb_S1024x5120_S1024x5120_0_0).toLoadRect (harg2.unread x1) = x1 :=
      (View.readAt_full _ _ _).trans hf1
    have e2 : View.readAt (Elt F) arg3.view (Rect.unit ![0, 0] S1x1024.size inb_S1x1024_S1x1024_0_0).toLoadRect (harg3.unread x2) = x2 :=
      (View.readAt_full _ _ _).trans hf2
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap; · iexact H3
      ipureintro
      refine (View.read_writes_full _ _ _ _ _).trans ?_
      exact pay3_congr (View.readCov_full _ _ _ _ _) rfl (readCov_col _ _ _) rfl
    isplitl [H4]
    · iexists _; isplitr; swap; · iexact H4
      ipureintro
      exact View.read_writes_full _ _ _ _ _
    isplitl [H5]
    · iexists _; isplitr; swap; · iexact H5
      ipureintro
      exact View.read_writes_full _ _ _ _ _
    iexists _; isplitr; swap; · iexact HS0
    ipureintro
    exact View.read_writes_full _ _ _ _ _

set_option maxHeartbeats 1000000 in
/-- The body at a later grid point: it reads the codes `d4` and the scales `s` left in place, leaves them, and computes its block of
    outputs. -/
theorem runB (c : Dev nD) (i : grid0.Coords) (arg1 : Memref sig .tc .vmem S64x5120 .bf16) (harg1 : arg1.IsWhole) (arg2 : Memref sig .tc .vmem S1024x5120 .fp8e4m3) (harg2 : arg2.IsWhole) (arg3 : Memref sig .tc .vmem S1x1024 .f32) (harg3 : arg3.IsWhole) (arg4 : Memref sig .tc .vmem S64x1024 .bf16) (harg4 : arg4.IsWhole) (arg5 : Memref sig .tc .vmem S64x5120 .fp8e4m3) (harg5 : arg5.IsWhole) (arg6 : Memref sig .tc .vmem S1x64 .f32) (harg6 : arg6.IsWhole) (arg7 : Memref sig .tc .vmem S64x128 .f32) (harg7 : arg7.IsWhole) (hc0 : ¬ k0_cond1 i = 1#1)
    (x0 : Vec F S64x5120 .bf16) (x1 : Vec F S1024x5120 .fp8e4m3) (x2 : Vec F S1x1024 .f32)
    (d4 : Vec F S64x5120 .fp8e4m3) (d5 : Vec F S1x64 .f32) (s : FVec F S64x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare d4 ∗ owns (c : Thread nD τ) arg6 fullShare d5 ∗ owns (c : Thread nD τ) arg7 fullShare (k0_pay1 s)
            ∗ (iprop(owns (c : Thread nD τ) arg1 fullShare x0 ∗ owns (c : Thread nD τ) arg2 fullShare x1 ∗ owns (c : Thread nD τ) arg3 fullShare x2 ∗ owns (c : Thread nD τ) arg4 fullShare (k0_pay3 d4 x1 s x2) ∗ owns (c : Thread nD τ) arg5 fullShare d4 ∗ owns (c : Thread nD τ) arg6 fullShare d5 ∗ owns (c : Thread nD τ) arg7 fullShare (k0_pay1 s)) -∗ K ⟨⟩))
          ⊢ wp frame (wpE (defs₀ (F := F)) Variants.none c none) E (cc0_fp8_rowwise_linear i arg1 harg1 arg2 harg2 arg3 harg3 arg4 harg4 arg5 harg5 arg6 harg6 arg7 harg7) K := by
    intro E K
    simp only [cc0_fp8_rowwise_linear_eq_skeleton]; unfold cc0_fp8_rowwise_linear_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0
    have e0 : View.readAt (Elt F) arg1.view (Rect.unit ![0, 0] S64x5120.size inb_S64x5120_S64x5120_0_0).toLoadRect (harg1.unread x0) = x0 :=
      (View.readAt_full _ _ _).trans hf0
    have e1 : View.readAt (Elt F) arg2.view (Rect.unit ![0, 0] S1024x5120.size inb_S1024x5120_S1024x5120_0_0).toLoadRect (harg2.unread x1) = x1 :=
      (View.readAt_full _ _ _).trans hf1
    have e2 : View.readAt (Elt F) arg3.view (Rect.unit ![0, 0] S1x1024.size inb_S1x1024_S1x1024_0_0).toLoadRect (harg3.unread x2) = x2 :=
      (View.readAt_full _ _ _).trans hf2
    have e4 : View.readAt (Elt F) arg5.view (Rect.unit ![0, 0] S64x5120.size inb_S64x5120_S64x5120_0_0).toLoadRect (harg5.unread d4) = d4 :=
      (View.readAt_full _ _ _).trans hf4
    have e7 : View.readAt (Elt F) arg7.view (Rect.unit (s := S64x128) ![0, 0] S64x1.size inb_S64x128_S64x1_0_0).toLoadRect (harg7.unread (k0_pay1 s)) = s := by
      funext y
      exact (congrFun hfs0 ((Rect.unit (s := S64x128) ![0, 0] S64x1.size inb_S64x128_S64x1_0_0).idx y)).trans (col_of_scratch s y)
    sl_exec (disch := first | sl_exact hc0)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap; · iexact H3
      ipureintro
      refine (View.read_writes_full _ _ _ _ _).trans ?_
      exact pay3_congr rfl rfl rfl rfl
    isplitl [H4]
    · iexists _; isplitr; · ipureintro; exact hf4
      iexact H4
    isplitl [H5]
    · iexists _; isplitr; · ipureintro; exact hf5
      iexact H5
    iexists _; isplitr; · ipureintro; exact hfs0
    iexact HS0

end Cert.KernelIdeal.Run

end
-- ==== Proof.KernelRun.lean ====
module

public import proofs.«01_k».proof.Proof.KernelBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Claim
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points quantise, and what is idle where -/

/-- The quantising branch is taken at the first point only. -/
theorem first_iff (t : Fin cfg0.N) : k0_cond1 (grid0.coords t) = 1#1 ↔ t.val = 0 := by
  have ht : t.val < 27 := Nat.lt_of_lt_of_eq t.isLt N_0
  have e0 : (grid0.coords t 0).val = t.val / 1 % 27 := Pipeline.Grid.coords_val t 0 (by decide) rfl
  have h : k0_cond1 (grid0.coords t) = 1#1 ↔ t.val % 27 = 0 := by
    simp only [k0_cond1, e0]
    word_cmp
  rw [h]; omega

/-- The codes' window is untouched at every point but the first. -/
theorem idle4 (t : Fin cfg0.N) : cfg0.idle 4 (grid0.coords t) = decide (t.val ≠ 0) := by
  show (!(k0_cond1 (grid0.coords t) == 1#1)) = _
  by_cases h : t.val = 0
  · rw [(first_iff t).mpr h]; simp [h]
  · have h' : ¬ k0_cond1 (grid0.coords t) = 1#1 := fun e => h ((first_iff t).mp e)
    simp [h, h']

/-- The scales' window is untouched at every point but the first. -/
theorem idle5 (t : Fin cfg0.N) : cfg0.idle 5 (grid0.coords t) = decide (t.val ≠ 0) := idle4 t

/-- A buffer written back at the last point only, and written at the first, is fresh at the first point only. -/
theorem fresh_of (w : Fin cfg0.W) (hfl : ∀ t : Fin cfg0.N, (cfg0.win w).flush t = true ↔ t.val % 27 = 26)
    (hid : ∀ t : Fin cfg0.N, cfg0.idle w (grid0.coords t) = decide (t.val ≠ 0)) (t : Fin cfg0.N) :
    cfg0.fresh w t.val = decide (t.val = 0) := by
  have ht : t.val < 27 := Nat.lt_of_lt_of_eq t.isLt N_0
  rw [Cfg.fresh_tab cfg0 w (fun n => decide (n % 27 = 0)) rfl (fun s => by
    have hs : s.val < 27 := Nat.lt_of_lt_of_eq s.isLt N_0
    rw [show (cfg0.win w).flush s = decide (s.val % 27 = 26) by rw [Bool.eq_iff_iff, hfl s]; simp]
    refine Eq.trans ?_ (congrArg (fun b => _ || (b && _)) (hid s).symm)
    rw [Bool.eq_iff_iff]; simp; omega) t.val (Nat.le_of_lt t.isLt)]
  rw [Bool.eq_iff_iff]; simp; omega

/-! ## The contents the pipeline carries -/

/-- The first grid point. -/
def first : Fin cfg0.N := ⟨0, Nat.lt_of_lt_of_eq (by decide : 0 < 27) N_0.symm⟩

/-- The rows of `x` as the region finds them: the one block of window 0. -/
def rows (c : Dev nD) : Vec F S64x5120 .bf16 := iblk m c 0 first

/-- Every point finds the same rows of `x`. -/
theorem iblk_rows (c : Dev nD) (t : Fin cfg0.N) : iblk m c 0 t = rows m c := rfl

/-- What the scratch holds before point `t`: anything before the first point, every row's scale in all lanes afterwards. -/
def Phi (c : Dev nD) (n : ℕ) : sProp 𝕄 :=
  if n = 0 then Pipeline.ΦA spec0 c
  else iprop(owns (c : Thread nD τ) (Memref.whole cc0_scratch0 : Memref sig .tc .vmem S64x128 .f32) fullShare (k0_pay1 (scale (rows m c))) ∗ (∃ r, prngReg c r))

/-- The pipeline's data: the inputs' blocks, the block of outputs of each point, the codes and the scales from the first point on. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (codes (rows m c)) (iblk m c 1 t) (scale (rows m c)) (iblk m c 2 t)
    | ⟨4, _⟩ => codes (rows m c)
    | ⟨5, _⟩ => k0_pay2 (scale (rows m c))
  Φ t := Phi m c t.val
  q _ := fullShare
  owed _ := 0

/-- Each window's array as the region finds it. -/
theorem A_eq (c : Dev nD) (w : Fin cfg0.W) : (dats m 0 c).A w = V m c (Pipeline.arrRef spec0 w) := by
  dsimp only [dats]

/-- After a point the rows' buffer holds the rows. -/
theorem after0 (c : Dev nD) (t : Fin cfg0.N) : (dats m 0 c).after 0 t = iblk m c 0 t := by dsimp only [dats]
/-- After a point the weight's buffer holds the block of the weight. -/
theorem after1 (c : Dev nD) (t : Fin cfg0.N) : (dats m 0 c).after 1 t = iblk m c 1 t := by dsimp only [dats]
/-- After a point the weight scales' buffer holds their block. -/
theorem after2 (c : Dev nD) (t : Fin cfg0.N) : (dats m 0 c).after 2 t = iblk m c 2 t := by dsimp only [dats]
/-- After a point the outputs' buffer holds the block of outputs. -/
theorem after3 (c : Dev nD) (t : Fin cfg0.N) : (dats m 0 c).after 3 t
    = k0_pay3 (codes (rows m c)) (iblk m c 1 t) (scale (rows m c)) (iblk m c 2 t) := by dsimp only [dats]
/-- After a point the codes' buffer holds the codes. -/
theorem after4 (c : Dev nD) (t : Fin cfg0.N) : (dats m 0 c).after 4 t = codes (rows m c) := by dsimp only [dats]
/-- After a point the scales' buffer holds the scales. -/
theorem after5 (c : Dev nD) (t : Fin cfg0.N) : (dats m 0 c).after 5 t = k0_pay2 (scale (rows m c)) := by dsimp only [dats]

/-- Before a point the rows' buffer holds the rows. -/
theorem before0 (c : Dev nD) (t : Fin cfg0.N) (d) : (dats m 0 c).before 0 t d = iblk m c 0 t :=
  before0_0_of m (dats m 0 c) (A_eq m c 0) (after0 m c) t d
/-- Before a point the weight's buffer holds the block of the weight. -/
theorem before1 (c : Dev nD) (t : Fin cfg0.N) (d) : (dats m 0 c).before 1 t d = iblk m c 1 t :=
  before0_1_of m (dats m 0 c) (A_eq m c 1) (after1 m c) t d
/-- Before a point the weight scales' buffer holds their block. -/
theorem before2 (c : Dev nD) (t : Fin cfg0.N) (d) : (dats m 0 c).before 2 t d = iblk m c 2 t :=
  before0_2_of m (dats m 0 c) (A_eq m c 2) (after2 m c) t d

/-- After the first point the codes' buffer holds the codes. -/
theorem before4 (c : Dev nD) (t : Fin cfg0.N) (ht : t.val ≠ 0) (d) : (dats m 0 c).before 4 t d = codes (rows m c) := by
  rw [(dats m 0 c).before_out_traj 4 rfl (fun _ _ => rfl) (fun t _ _ _ => by rw [after4, after4]) t.val t rfl d,
    fresh_of 4 flush0_4 idle4 t, if_neg (by simp [ht]), after4]

/-- After the first point the scales' buffer holds the scales. -/
theorem before5 (c : Dev nD) (t : Fin cfg0.N) (ht : t.val ≠ 0) (d) : (dats m 0 c).before 5 t d = k0_pay2 (scale (rows m c)) := by
  rw [(dats m 0 c).before_out_traj 5 rfl (fun _ _ => rfl) (fun t _ _ _ => by rw [after5, after5]) t.val t rfl d,
    fresh_of 5 flush0_5 idle5 t, if_neg (by simp [ht]), after5]

/-! ## The body at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A window that is not idle is left at its named contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- A window handed back at its named contents is left as the pipeline asks, idle or not, once what it held before is what it is named. -/
theorem leaves_carried (c : Dev nD) (w : Fin cfg0.W) (t : Fin cfg0.N) (h : ∀ d, (dats m 0 c).before w t d = (dats m 0 c).after w t) :
    owns (c : Thread nD τ) ((cfg0.win w).stage (cfg0.slots t w)) fullShare ((dats m 0 c).after w t) ⊢ (dats m 0 c).leavesExact w t := by
  cases hi : cfg0.idle w (grid0.coords t)
  · rw [leaves_live m c w t hi]
  · cases hf : (cfg0.win w).flush t
    · rw [(dats m 0 c).leavesExact_idle w t hi hf]
      iintro H
      iexists (dats m 0 c).after w t
      rw [h]
      iexact H
    · unfold Dat.leavesExact; rw [hi, hf]

/-- The pipeline's invariant is the scratch at some contents and the generator register. -/
theorem PhiA_eq (c : Dev nD) :
    (Pipeline.ΦA spec0 c : sProp 𝕄)
      = iprop(iprop((∃ d, owns (c : Thread nD τ) (Memref.whole cc0_scratch0 : Memref sig .tc .vmem S64x128 .f32) fullShare d)) ∗ (∃ r, prngReg c r)) := by
  unfold Pipeline.ΦA; rw [scopedRest0_eq]; simp only [owns_whole]; try rfl

set_option maxHeartbeats 1600000 in
/-- The body at any point keeps the pipeline's data: at the first point it computes the codes, the scales and the scratch; at a later
    one it finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl,
    show (dats m 0 c).Φ t.castSucc = Phi m c t.val from rfl, show (dats m 0 c).Φ t.succ = Phi m c (t.val + 1) from rfl,
    show Phi m c (t.val + 1) = iprop(owns (c : Thread nD τ) (Memref.whole cc0_scratch0 : Memref sig .tc .vmem S64x128 .f32) fullShare (k0_pay1 (scale (rows m c))) ∗ (∃ r, prngReg c r)) from if_neg (Nat.succ_ne_zero _),
    leaves_live m c 0 t rfl, leaves_live m c 1 t rfl, leaves_live m c 2 t rfl, leaves_live m c 3 t rfl,
    after0, after1, after2, after3]
  by_cases h0 : t.val = 0
  · rw [show Phi m c t.val = Pipeline.ΦA spec0 c from if_pos h0, PhiA_eq,
      leaves_live m c 4 t (by rw [idle4]; simp [h0]), leaves_live m c 5 t (by rw [idle5]; simp [h0]), after4, after5]
    iintro ⟨⟨HS0, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ ((first_iff t).mpr h0) (rows m c) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show Phi m c t.val = iprop(owns (c : Thread nD τ) (Memref.whole cc0_scratch0 : Memref sig .tc .vmem S64x128 .f32) fullShare (k0_pay1 (scale (rows m c))) ∗ (∃ r, prngReg c r)) from if_neg h0]
    simp only [before4 m c t h0, before5 m c t h0]
    have l4 := leaves_carried m c 4 t fun d => (before4 m c t h0 d).trans (after4 m c t).symm
    have l5 := leaves_carried m c 5 t fun d => (before5 m c t h0 d).trans (after5 m c t).symm
    rw [after4] at l4
    rw [after5] at l5
    iintro ⟨⟨HS0, Hg⟩, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ _ _ (fun h => h0 ((first_iff t).mp h)) (rows m c) (iblk m c 1 t) (iblk m c 2 t)
      (codes (rows m c)) (k0_pay2 (scale (rows m c))) (scale (rows m c))) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply l4; iexact H4
    iapply l5; iexact H5

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point the data ask nothing of the scratch. -/
theorem Phi_in (c : Dev nD) : Pipeline.ΦA spec0 c ⊢ (dats m 0 c).Φ 0 := by
  rw [show (dats m 0 c).Φ 0 = Phi m c 0 from rfl, show Phi m c 0 = Pipeline.ΦA spec0 c from if_pos rfl]

/-- After the last point the scratch is given back. -/
theorem Phi_out (c : Dev nD) : (dats m 0 c).Φ (Fin.last cfg0.N) ⊢ Pipeline.ΦA spec0 c := by
  have hN : cfg0.N = 27 := N_0
  rw [show (dats m 0 c).Φ (Fin.last cfg0.N) = Phi m c cfg0.N from rfl, PhiA_eq]
  unfold Phi
  rw [if_neg (by omega)]
  iintro ⟨HS0, Hg⟩
  isplitl [HS0]
  · iexists _; iexact HS0
  iexact Hg

set_option backward.isDefEq.respectTransparency.types false in
set_option maxHeartbeats 1600000 in
/-- The program runs, ends with every array at what the pipeline's data say and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- The same without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame claim: the program runs, ends with its three arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.KernelFrame.lean ====
module

public import proofs.«01_k».proof.Defs
public import proofs.«01_k».proof.Proof.Gen.Kernel
public import proofs.«01_k».proof.Proof.KernelRun

@[expose] public section

set_option maxRecDepth 16384
set_option maxHeartbeats 4000000

namespace Cert.KernelFrame

open Idealize.ShloMosaic Idealize.SL.Sem

/-! The kernel and its ideal program are one text, printed twice. So the run proved of one, at every float type, is the run of the other. -/

variable [Cert.Kernel.Facts] [Cert.KernelIdeal.Facts] (F : FTy → Type) [FloatOps F]

/-- The two texts name the same pipeline. -/
theorem config_eq : Cert.Kernel.cfg0 = Cert.KernelIdeal.cfg0 := rfl

/-- The two texts name the same body. -/
theorem body_eq (i : Cert.Kernel.grid0.Coords) :
    Cert.Kernel.cc0_fp8_rowwise_linear (F := F) i = Cert.KernelIdeal.cc0_fp8_rowwise_linear (F := F) i := rfl

/-- The two tables of bodies are equal. -/
theorem bodies_eq : Cert.Kernel.defs₀ (F := F) = Cert.KernelIdeal.defs₀ (F := F) := by
  refine congrArg Defs.onTc (funext fun l => funext fun a => ?_)
  match l, a with
  | ⟨0, _⟩, (t, s) => rfl
  | ⟨n + 1, h⟩, _ => exact absurd h (by omega)

/-- The two tables of pipelines and bodies are equal. -/
theorem defs_eq : Cert.Kernel.defs (F := F) = Cert.KernelIdeal.defs (F := F) :=
  congrArg (Pipeline.defs Cert.KernelIdeal.pcfgs) (bodies_eq F)

/-- The two main programs are equal. -/
theorem main_eq : Cert.Kernel.main (F := F) = Cert.KernelIdeal.main (F := F) := rfl

/-- The frame of the kernel on words: it runs, ends with its three arguments as they were and every semaphore at zero. -/
theorem frame : Cert.quiescent_Kernel := by
  intro m ρ _
  have h := Cert.KernelIdeal.Run.frame (F := Bits) m ρ
  rw [← defs_eq] at h
  exact h

end Cert.KernelFrame
-- ==== Proof.Exponent.lean ====
module

public import Idealize.ShloMosaic.PureOps.Ideal.Laws
public import Idealize.ShloMosaic.Lib.ValueIdxCore

@[expose] public section

noncomputable section

namespace Cert.Exponent

open Idealize.ShloMosaic

/-- The value of the exponent field `t` with an empty significand: `2 ^ (t - 127)`, with `0` at the
    field `0` and `⊤` at the field `255`. -/
def power (t : ℕ) : EReal :=
  if t = 0 then 0 else if t = 255 then ⊤ else (((2 : ℝ) ^ ((t : ℤ) - 127) : ℝ) : EReal)

/-- A 32-bit float pattern with a clear sign and an empty significand denotes the power of two of its exponent field. -/
theorem ieee_of_fields (w : BitVec 32) (t : ℕ) (hneg : w.extractLsb' 31 1 = 0#1) (hex : (w.extractLsb' 23 8).toNat = t)
    (hfr : (w.extractLsb' 0 23).toNat = 0) : Ideal.ieee 8 23 w = power t := by
  have hneg' : (w.extractLsb' (8 + 23) 1 == 1#1) = false := by
    show (w.extractLsb' 31 1 == 1#1) = false
    rw [hneg]; rfl
  unfold Ideal.ieee power
  rw [hneg', hex, hfr]
  by_cases h0 : t = 0
  · subst h0; simp
  by_cases h1 : t = 255
  · subst h1; simp
  have h1' : ¬ (t = 2 ^ 8 - 1) := by omega
  simp only [h0, h1, h1', if_false]
  refine congrArg Real.toEReal ?_
  have e : ((t : ℤ) - 127) = ((t : ℤ) - (2 ^ (8 - 1) - 1) - (23 : ℕ)) + 23 := by norm_num
  rw [e, zpow_add₀ (by norm_num : (2 : ℝ) ≠ 0), mul_comm]
  norm_num

/-- The word `t <<< 23` read as a number is `power t`. -/
theorem ofBits_shift (b : BitVec 32) (h : b.toNat < 256) : Ideal.ofBits .f32 (b <<< 23) = power b.toNat := by
  have key : (b <<< 23).toNat = b.toNat * 2 ^ 23 := by
    rw [BitVec.toNat_shiftLeft, Nat.shiftLeft_eq]; omega
  refine ieee_of_fields (b <<< 23) b.toNat ?_ ?_ ?_
  · apply BitVec.eq_of_toNat_eq
    rw [BitVec.extractLsb'_toNat, key, Nat.shiftRight_eq_div_pow]
    show _ = 0
    omega
  · rw [BitVec.extractLsb'_toNat, key, Nat.shiftRight_eq_div_pow]; omega
  · rw [BitVec.extractLsb'_toNat, key, Nat.shiftRight_eq_div_pow]; omega

/-- What the binary search knows of its candidate `b` while `s` fields remain: `b` is the first of them, the number
    has reached `power b`, and it is below `power (b + s)`. -/
structure Between (q : EReal) (b : BitVec 32) (s : ℕ) : Prop where
  le : b.toNat + s ≤ 256
  lower : b.toNat = 0 ∨ power b.toNat ≤ q
  upper : b.toNat + s = 256 ∨ q < power (b.toNat + s)

/-- One step of the search: take the stride when the number has reached the power it leads to. -/
def step (q : EReal) (b s : BitVec 32) : BitVec 32 :=
  Scalar.select (Ideal.cmp .oge q (Ideal.ofBits .f32 (IntOp.shli .vector (IntOp.addi b s) 23#32))) (IntOp.addi b s) b

/-- A step halves what remains. -/
theorem Between.step {q : EReal} {b s : BitVec 32} (hs : 0 < s.toNat) (h : Between q b (2 * s.toNat)) :
    Between q (step q b s) s.toNat := by
  obtain ⟨h1, h2, h3⟩ := h
  have hadd : (b + s).toNat = b.toNat + s.toNat := by rw [BitVec.toNat_add]; omega
  have hw : Ideal.ofBits .f32 (IntOp.shli .vector (IntOp.addi b s) 23#32) = power (b.toNat + s.toNat) := by
    rw [← hadd]; exact ofBits_shift (b + s) (by omega)
  unfold Exponent.step
  rw [hw]
  by_cases hq : power (b.toNat + s.toNat) ≤ q
  · have : Ideal.cmp .oge q (power (b.toNat + s.toNat)) = 1 := by simp [Ideal.cmp, hq]
    rw [this]
    show Between q (b + s) _
    exact ⟨by omega, .inr (by rw [hadd]; exact hq), by rw [hadd]; convert h3 using 2 <;> first | omega | (congr 1; omega)⟩
  · have : Ideal.cmp .oge q (power (b.toNat + s.toNat)) = 0 := by simp [Ideal.cmp, hq]
    rw [this]
    show Between q b _
    exact ⟨by omega, h2, .inr (not_le.mp hq)⟩

/-- The search over the eight bits of the exponent field, from the greatest down. -/
def search (q : EReal) : BitVec 32 :=
  step q (step q (step q (step q (step q (step q (step q (step q 0#32 128#32) 64#32) 32#32) 16#32) 8#32) 4#32) 2#32) 1#32

/-- The search ends at the field whose binade holds the number. -/
theorem search_between (q : EReal) : Between q (search q) 1 := by
  have h0 : Between q 0#32 (2 * (128#32).toNat) := ⟨by decide, .inl rfl, .inl rfl⟩
  exact Between.step (s := 1#32) (by decide) <| Between.step (s := 2#32) (by decide) <| Between.step (s := 4#32) (by decide) <|
    Between.step (s := 8#32) (by decide) <| Between.step (s := 16#32) (by decide) <| Between.step (s := 32#32) (by decide) <|
    Between.step (s := 64#32) (by decide) <| Between.step (s := 128#32) (by decide) h0

/-! ## The two exponents -/

/-- The word 0 is the number 0. -/
theorem ofBits_zero : Ideal.ofBits .f32 0x00000000#32 = 0 := (ofBits_shift 0#32 (by decide)).trans (if_pos rfl)
/-- The word of infinity is the top of the extended reals. -/
theorem ofBits_top : Ideal.ofBits .f32 0x7F800000#32 = ⊤ := (ofBits_shift 255#32 (by decide)).trans rfl
/-- The least normal word is the least normal power of two. -/
theorem ofBits_tiny : Ideal.ofBits .f32 0x00800000#32 = power 1 := ofBits_shift 1#32 (by decide)

/-- A positive power of two between the two end fields. -/
theorem power_mid {t : ℕ} (h0 : t ≠ 0) (h1 : t ≠ 255) : power t = (((2 : ℝ) ^ ((t : ℤ) - 127) : ℝ) : EReal) := by
  unfold power; rw [if_neg h0, if_neg h1]

/-- The word of 1 is the number 1. -/
theorem ofBits_one : Ideal.ofBits .f32 0x3F800000#32 = ((1 : ℝ) : EReal) := by
  refine (ofBits_shift 127#32 (by decide)).trans ?_
  rw [power_mid (by decide) (by decide)]; norm_num
/-- The word of 2 is the number 2. -/
theorem ofBits_two : Ideal.ofBits .f32 0x40000000#32 = ((2 : ℝ) : EReal) := by
  refine (ofBits_shift 128#32 (by decide)).trans ?_
  rw [power_mid (by decide) (by decide)]; norm_num
/-- The word of 128 is the number 128. -/
theorem ofBits_128 : Ideal.ofBits .f32 0x43000000#32 = ((128 : ℝ) : EReal) := by
  refine (ofBits_shift 134#32 (by decide)).trans ?_
  rw [power_mid (by decide) (by decide)]; norm_num
/-- The word of -127 is the number -127. -/
theorem ofBits_neg_127 : Ideal.ofBits .f32 0xC2FE0000#32 = ((-127 : ℝ) : EReal) := by
  simp [Ideal.ofBits, Ideal.ieee, -EReal.coe_mul, -EReal.coe_neg]; norm_num

/-- The exponent as an integer word, from the search: `0` for a row of zeros and at the two end fields. -/
def expBits (a q : EReal) : BitVec 32 :=
  Scalar.select (Ideal.cmp .oeq a (Ideal.ofBits .f32 0x00000000#32)) 0#32
    (Scalar.select (IntOp.ori (IntOp.cmpi .eq (search q) 0#32) (IntOp.cmpi .eq (search q) 255#32)) 0#32
      (IntOp.subi (search q) 126#32))

/-- The exponent as a number, from the logarithm: `0` for a row of zeros, below the least normal number and at infinity. -/
def expReal (a q : EReal) : EReal :=
  Scalar.select (Ideal.cmp .oeq a (Ideal.ofBits .f32 0x00000000#32)) (Ideal.ofBits .f32 0x00000000#32)
    (Scalar.select (IntOp.ori (Ideal.cmp .olt q (Ideal.ofBits .f32 0x00800000#32)) (Ideal.cmp .oeq q (Ideal.ofBits .f32 0x7F800000#32)))
      (Ideal.ofBits .f32 0x00000000#32)
      (Ideal.liftRound Int.floor (Ideal.div (Ideal.log q) (Ideal.log (Ideal.ofBits .f32 0x40000000#32)))
        + Ideal.ofBits .f32 0x3F800000#32))

/-- The floor of the base-2 logarithm of a number in a binade. -/
theorem floor_log {r : ℝ} {n : ℤ} (h1 : (2 : ℝ) ^ n ≤ r) (h2 : r < (2 : ℝ) ^ (n + 1)) : ⌊Real.log r / Real.log 2⌋ = n := by
  have hp : (0 : ℝ) < 2 ^ n := zpow_pos (by norm_num) n
  have hr : 0 < r := hp.trans_le h1
  have hl : 0 < Real.log 2 := Real.log_pos (by norm_num)
  rw [Int.floor_eq_iff, le_div_iff₀ hl, div_lt_iff₀ hl]
  refine ⟨?_, ?_⟩
  · rw [← Real.log_zpow]; exact Real.log_le_log hp h1
  · have : ((n : ℝ) + 1) * Real.log 2 = Real.log ((2 : ℝ) ^ (n + 1)) := by rw [Real.log_zpow]; push_cast; ring
    rw [this]; exact Real.log_lt_log hr h2

/-- The floor of the base-2 logarithm is at least `n` from `2 ^ n` on. -/
theorem le_floor_log {r : ℝ} {n : ℤ} (h1 : (2 : ℝ) ^ n ≤ r) : n ≤ ⌊Real.log r / Real.log 2⌋ := by
  have hp : (0 : ℝ) < 2 ^ n := zpow_pos (by norm_num) n
  have hl : 0 < Real.log 2 := Real.log_pos (by norm_num)
  rw [Int.le_floor, le_div_iff₀ hl, ← Real.log_zpow]
  exact Real.log_le_log hp h1

/-- The logarithm's branch at a positive real. -/
theorem floor_log_ideal {r : ℝ} (hr : 0 < r) :
    Ideal.liftRound Int.floor (Ideal.div (Ideal.log (r : EReal)) (Ideal.log (Ideal.ofBits .f32 0x40000000#32)))
        + Ideal.ofBits .f32 0x3F800000#32 = (((⌊Real.log r / Real.log 2⌋ + 1 : ℤ) : ℝ) : EReal) := by
  have hl : Real.log 2 ≠ 0 := (Real.log_pos (by norm_num)).ne'
  rw [ofBits_two, ofBits_one, Ideal.log_coe, Ideal.log_coe, if_neg (not_le.mpr hr), if_neg (by norm_num)]
  have hd : Ideal.div (Real.log r : EReal) (Real.log 2 : EReal) = ((Real.log r / Real.log 2 : ℝ) : EReal) := by
    unfold Ideal.div
    rw [if_neg (by exact_mod_cast hl), div_eq_mul_inv, EReal.coe_mul, EReal.coe_inv]
  rw [hd]
  show (((⌊Real.log r / Real.log 2⌋ : ℤ) : ℝ) : EReal) + ((1 : ℝ) : EReal) = _
  rw [← EReal.coe_add]; push_cast; rfl

/-- A selection under a true condition takes the first value. -/
theorem select_true {α : Type} {c : BitVec 1} (h : c = 1) (a b : α) : Scalar.select c a b = a := if_pos h
/-- A selection under a false condition takes the second value. -/
theorem select_false {α : Type} {c : BitVec 1} (h : c = 0) (a b : α) : Scalar.select c a b = b := by subst h; rfl

/-- The two exponents are one integer, up to the ceiling `128` of the word. -/
theorem exponents (a q : EReal) : ∃ j : ℤ, -128 ≤ j ∧ expReal a q = ((j : ℝ) : EReal) ∧ expBits a q = BitVec.ofInt 32 (min j 128) := by
  unfold expReal expBits
  by_cases ha : a = 0
  · have : Ideal.cmp .oeq a (Ideal.ofBits .f32 0x00000000#32) = 1 := by rw [ofBits_zero]; simp [Ideal.cmp, ha]
    rw [this, select_true rfl, select_true rfl]
    exact ⟨0, by norm_num, by rw [ofBits_zero]; norm_num, rfl⟩
  have : Ideal.cmp .oeq a (Ideal.ofBits .f32 0x00000000#32) = 0 := by rw [ofBits_zero]; simp [Ideal.cmp, ha]
  rw [this, select_false rfl, select_false rfl]
  obtain ⟨h1, h2, h3⟩ := search_between q
  have hN : search q = BitVec.ofNat 32 (search q).toNat := by simp
  generalize (search q).toNat = N at h1 h2 h3 hN
  rw [hN, ofBits_tiny, ofBits_top]
  by_cases h0 : N = 0
  · subst h0
    have hq : q < power 1 := h3.resolve_left (by norm_num)
    rw [select_true (by simp only [Ideal.cmp, IntOp.ori, hq]; cases decide (q = ⊤) <;> rfl), select_true (by decide)]
    exact ⟨0, by norm_num, by rw [ofBits_zero]; norm_num, rfl⟩
  have hlow := h2.resolve_left h0
  by_cases h255 : N = 255
  · subst h255
    have hq : q = ⊤ := top_le_iff.mp hlow
    rw [select_true (by simp [Ideal.cmp, IntOp.ori, hq]), select_true (by decide)]
    exact ⟨0, by norm_num, by rw [ofBits_zero]; norm_num, rfl⟩
  have hup : q < power (N + 1) := h3.resolve_left (by omega)
  rw [power_mid h0 h255] at hlow
  induction q with
  | bot => simp at hlow
  | top => simp at hup
  | coe r =>
    have hlow : (2 : ℝ) ^ ((N : ℤ) - 127) ≤ r := by exact_mod_cast hlow
    have hr : 0 < r := (zpow_pos (by norm_num) _).trans_le hlow
    have hnt : ¬ ((r : EReal) < power 1) := by
      rw [power_mid (by decide) (by decide), not_lt]
      refine EReal.coe_le_coe_iff.mpr (le_trans ?_ hlow)
      exact zpow_le_zpow_right₀ (by norm_num) (by push_cast; omega)
    have hc : IntOp.ori (Ideal.cmp .olt (r : EReal) (power 1)) (Ideal.cmp .oeq (r : EReal) ⊤) = 0 := by
      simp [Ideal.cmp, IntOp.ori, hnt]
    have hb : IntOp.ori (IntOp.cmpi .eq (BitVec.ofNat 32 N) 0#32) (IntOp.cmpi .eq (BitVec.ofNat 32 N) 255#32) = 0 := by
      have e0 : (BitVec.ofNat 32 N == 0#32) = false := by
        rw [beq_eq_false_iff_ne]; intro e; have := congrArg BitVec.toNat e; simp at this; omega
      have e1 : (BitVec.ofNat 32 N == 255#32) = false := by
        rw [beq_eq_false_iff_ne]; intro e; have := congrArg BitVec.toNat e; simp at this; omega
      simp only [IntOp.ori, IntOp.cmpi, e0, e1]; rfl
    rw [select_false hc, select_false hb, floor_log_ideal hr]
    have hsub : ∀ k : ℤ, k = (N : ℤ) - 126 → IntOp.subi (BitVec.ofNat 32 N) 126#32 = BitVec.ofInt 32 k := by
      rintro k rfl
      apply BitVec.eq_of_toNat_eq
      show (BitVec.ofNat 32 N - 126#32).toNat = _
      rw [BitVec.toNat_sub, BitVec.toNat_ofInt]
      simp only [BitVec.toNat_ofNat]
      omega
    by_cases h254 : N = 254
    · subst h254
      have := le_floor_log hlow
      refine ⟨_, ?_, rfl, hsub _ ?_⟩ <;> push_cast at * <;> omega
    · rw [power_mid (by omega) (by omega)] at hup
      have hup : r < (2 : ℝ) ^ ((N : ℤ) - 127 + 1) := by
        have : r < (2 : ℝ) ^ (((N + 1 : ℕ) : ℤ) - 127) := by exact_mod_cast hup
        refine this.trans_eq (congrArg _ ?_); push_cast; ring
      rw [floor_log hlow hup]
      refine ⟨_, ?_, rfl, hsub _ ?_⟩ <;> omega

/-! ## The two powers of two -/

/-- `2 ^ j` with the ends of the word's range: `⊤` from `128` on and `0` from `-127` down. -/
def pow2 (j : ℤ) : EReal := if 128 ≤ j then ⊤ else if j ≤ -127 then 0 else (((2 : ℝ) ^ j : ℝ) : EReal)

/-- The power of two assembled as a word. -/
def powBits (e : BitVec 32) : EReal :=
  Ideal.ofBits .f32 (Scalar.select (IntOp.cmpi .sle (IntOp.addi e 127#32) 0#32) 0#32
    (Scalar.select (IntOp.cmpi .sge (IntOp.addi e 127#32) 255#32) 2139095040#32 (IntOp.shli .vector (IntOp.addi e 127#32) 23#32)))

/-- The power of two computed as a number. -/
def powReal (e : EReal) : EReal :=
  Scalar.select (Ideal.cmp .oge e (Ideal.ofBits .f32 0x43000000#32)) (Ideal.ofBits .f32 0x7F800000#32)
    (Scalar.select (Ideal.cmp .ole e (Ideal.ofBits .f32 0xC2FE0000#32)) (Ideal.ofBits .f32 0x00000000#32) (Ideal.exp2 e))

/-- The power computed as a number, at an integer. -/
theorem powReal_eq (j : ℤ) : powReal ((j : ℝ) : EReal) = pow2 j := by
  unfold powReal pow2
  rw [ofBits_128, ofBits_top, ofBits_neg_127, ofBits_zero]
  by_cases h : 128 ≤ j
  · have : ((128 : ℝ) : EReal) ≤ ((j : ℝ) : EReal) := EReal.coe_le_coe_iff.mpr (by exact_mod_cast h)
    rw [select_true (by simp only [Ideal.cmp, this]; rfl), if_pos h]
  have h' : ¬ ((128 : ℝ) : EReal) ≤ ((j : ℝ) : EReal) := by rw [EReal.coe_le_coe_iff]; exact_mod_cast h
  rw [select_false (by simp only [Ideal.cmp, h']; rfl), if_neg h]
  by_cases h2 : j ≤ -127
  · have : ((j : ℝ) : EReal) ≤ ((-127 : ℝ) : EReal) := EReal.coe_le_coe_iff.mpr (by exact_mod_cast h2)
    rw [select_true (by simp only [Ideal.cmp, this]; rfl), if_pos h2]
  have h2' : ¬ ((j : ℝ) : EReal) ≤ ((-127 : ℝ) : EReal) := by rw [EReal.coe_le_coe_iff]; exact_mod_cast h2
  rw [select_false (by simp only [Ideal.cmp, h2']; rfl), if_neg h2, Ideal.exp2_coe]
  exact congrArg Real.toEReal (Real.rpow_intCast 2 j)

/-- The power assembled as a word, at an integer whose field does not leave the range of the words used. -/
theorem powBits_eq (k : ℤ) (h1 : -129 ≤ k) (h2 : k ≤ 129) : powBits (BitVec.ofInt 32 k) = pow2 k := by
  have hb : IntOp.addi (BitVec.ofInt 32 k) 127#32 = BitVec.ofInt 32 (k + 127) := by
    show BitVec.ofInt 32 k + BitVec.ofInt 32 127 = _
    rw [BitVec.ofInt_add]
  have hi : (BitVec.ofInt 32 (k + 127)).toInt = k + 127 := by
    rw [BitVec.toInt_ofInt]; unfold Int.bmod; norm_num; omega
  unfold powBits pow2
  rw [hb]
  have hle : IntOp.cmpi .sle (BitVec.ofInt 32 (k + 127)) 0#32 = BitVec.ofBool (decide (k + 127 ≤ 0)) := by
    simp only [IntOp.cmpi, BitVec.sle, hi]; rfl
  have hge : IntOp.cmpi .sge (BitVec.ofInt 32 (k + 127)) 255#32 = BitVec.ofBool (decide (255 ≤ k + 127)) := by
    simp only [IntOp.cmpi, BitVec.sle, hi]; rfl
  rw [hle, hge]
  by_cases ha : 128 ≤ k
  · rw [select_false (by rw [decide_eq_false (by omega)]; rfl), select_true (by rw [decide_eq_true (by omega)]; rfl), if_pos ha]
    exact ofBits_top
  by_cases hc : k ≤ -127
  · rw [select_true (by rw [decide_eq_true (by omega)]; rfl), if_neg ha, if_pos hc]
    exact ofBits_zero
  rw [select_false (by rw [decide_eq_false (by omega)]; rfl), select_false (by rw [decide_eq_false (by omega)]; rfl), if_neg ha, if_neg hc]
  have ht : (BitVec.ofInt 32 (k + 127)).toNat = (k + 127).toNat := by rw [BitVec.toNat_ofInt]; omega
  refine (ofBits_shift _ (by rw [ht]; omega)).trans ?_
  rw [ht, power_mid (by omega) (by omega)]
  refine congrArg Real.toEReal (congrArg _ ?_)
  omega

/-- The scale: the assembled power is the computed one. -/
theorem scale_eq (a q : EReal) : powBits (expBits a q) = powReal (expReal a q) := by
  obtain ⟨j, h1, h2, h3⟩ := exponents a q
  rw [h2, h3, powReal_eq, powBits_eq _ (by omega) (by omega)]
  unfold pow2
  by_cases h : 128 ≤ j
  · rw [min_eq_right h]; simp [h]
  · rw [min_eq_left (by omega)]

/-- The inverse scale: the assembled power is the computed one. -/
theorem inv_eq (a q : EReal) :
    powBits (IntOp.subi 0#32 (expBits a q)) = powReal (Ideal.ofBits .f32 0x00000000#32 - expReal a q) := by
  obtain ⟨j, h1, h2, h3⟩ := exponents a q
  have hr : Ideal.ofBits .f32 0x00000000#32 - expReal a q = (((-j : ℤ) : ℝ) : EReal) := by
    rw [h2, ofBits_zero, zero_sub, ← EReal.coe_neg]; push_cast; rfl
  have hb : IntOp.subi 0#32 (expBits a q) = BitVec.ofInt 32 (-(min j 128)) := by
    rw [h3]
    show 0#32 - BitVec.ofInt 32 (min j 128) = _
    rw [BitVec.ofInt_neg, BitVec.zero_sub]
  rw [hr, hb, powReal_eq, powBits_eq _ (by omega) (by omega)]
  unfold pow2
  by_cases h : 128 ≤ j
  · rw [min_eq_right h, if_neg (by norm_num), if_pos (by norm_num), if_neg (by omega), if_pos (by omega)]
  · rw [min_eq_left (by omega)]

end Cert.Exponent
-- ==== Proof.Rowwise.lean ====
module

public import proofs.«01_k».proof.Proof.Exponent
public import Idealize.ShloMosaic.Lib.ValueIdx
public import Idealize.ShloMosaic.Lib.MatmulPlain
public import Idealize.ShloMosaic.Lib.Pipeline.Value

@[expose] public section

noncomputable section

open scoped BigOperators

namespace Cert.Rowwise

open Idealize.ShloMosaic Idealize.ShloMosaic.ValueIdx Cert.Exponent

/-- The shape of the rows. -/
abbrev SX : Shape := ⟨2, ![64, 5120]⟩
/-- The shape of the weight. -/
abbrev SW : Shape := ⟨2, ![27648, 5120]⟩
/-- The shape of the weight's scales. -/
abbrev SS : Shape := ⟨2, ![1, 27648]⟩
/-- The shape of the outputs. -/
abbrev SY : Shape := ⟨2, ![64, 27648]⟩
/-- The shape of a vector of 64 rows. -/
abbrev SR : Shape := ⟨1, ![64]⟩

/-- The greatest magnitude of each row. -/
def rowMax (x : FVec Ideal SX .f32) : FVec Ideal SR .f32 :=
  multiReduction .maximumf [1] SR (absf x) 0xFF800000#32 (by decide) (.inl rfl) rfl

/-- The row's greatest magnitude in units of the greatest code. -/
def ratio (x : FVec Ideal SX .f32) (i : Fin 64) : EReal := rowMax x (ix1 i) * Ideal.ofBits .f32 0x3B124925#32

/-- Row `i`'s exponent: the next power of two above the ratio. -/
def exponent (x : FVec Ideal SX .f32) (i : Fin 64) : EReal := expReal (rowMax x (ix1 i)) (ratio x i)

/-- Row `i`'s scale. -/
def scale (x : FVec Ideal SX .f32) (i : Fin 64) : EReal := powReal (exponent x i)

/-- Row `i`'s inverse scale. -/
def inverse (x : FVec Ideal SX .f32) (i : Fin 64) : EReal := powReal (Ideal.ofBits .f32 0x00000000#32 - exponent x i)

/-- The code of an element: scaled by its row's inverse scale and clipped to ±448. -/
def code (x : FVec Ideal SX .f32) (i : Fin 64) (k : Fin 5120) : EReal :=
  min (Ideal.ofBits .f32 0x43E00000#32) (max (Ideal.ofBits .f32 0xC3E00000#32) (x (ix2 i k) * inverse x i))

/-- One output: the product of the codes with a row of the weight, times both scales. -/
def output (x : FVec Ideal SX .f32) (w : Fin 5120 → EReal) (s : EReal) (i : Fin 64) : EReal :=
  (Ideal.ofBits .f32 0x00000000#32 + ∑ k : Fin 5120, code x i k * w k) * (scale x i * s)

/-- The outputs as a matrix. -/
def outputs (x : FVec Ideal SX .f32) (w : SW.Idx → EReal) (s : SS.Idx → EReal) : SY.Idx → EReal :=
  fun j => output x (fun k => w (ix2 (n0 := 27648) (n1 := 5120) (j 1) k)) (s (ix2 (n0 := 1) (n1 := 27648) 0 (j 1))) (j 0)
/-- The codes as a matrix. -/
def codes (x : FVec Ideal SX .f32) : SX.Idx → EReal := fun j => code x (j 0) (j 1)
/-- The scales as a one-row matrix. -/
def scales (x : FVec Ideal SX .f32) : (⟨2, ![1, 64]⟩ : Shape).Idx → EReal := fun j => scale x (j 1)

/-- A column of 64 read along the rows. -/
theorem column_apply {α : Type} (v : SR.Idx → α) (h : SR.ShapeCasts ⟨2, ![64, 1]⟩) (i : Fin 64) (z : Fin 1) :
    shapeCast ⟨2, ![64, 1]⟩ v h (ix2 i z) = v (ix1 i) := by
  refine shapeCast_apply v h _ _ ?_
  rw [Shape.rowMajor_val_one, Shape.rowMajor_val_two]
  show i.val = i.val * 1 + z.val
  omega

/-- A row of 64 read along the columns. -/
theorem row_apply {α : Type} (v : SR.Idx → α) (h : SR.ShapeCasts ⟨2, ![1, 64]⟩) (z : Fin 1) (i : Fin 64) :
    shapeCast ⟨2, ![1, 64]⟩ v h (ix2 z i) = v (ix1 i) := by
  refine shapeCast_apply v h _ _ ?_
  rw [Shape.rowMajor_val_one, Shape.rowMajor_val_two]
  show i.val = z.val * 64 + i.val
  omega

/-- A column repeated along the rows. -/
theorem broadcast_column {α : Type} {n : ℕ} (v : (⟨2, ![64, 1]⟩ : Shape).Idx → α) (h : (⟨2, ![64, 1]⟩ : Shape).Broadcasts ⟨2, ![64, n]⟩)
    (i : Fin 64) (k : Fin n) : broadcastTo ⟨2, ![64, n]⟩ v h (ix2 i k) = v (ix2 i 0) := by
  refine broadcastTo_apply v h _ _ fun a => ?_
  match a with
  | ⟨0, _⟩ => rfl
  | ⟨1, _⟩ => rfl

/-- A row repeated down the columns. -/
theorem broadcast_row {α : Type} {n : ℕ} (hn : n ≠ 1) (v : (⟨2, ![1, n]⟩ : Shape).Idx → α) (h : (⟨2, ![1, n]⟩ : Shape).Broadcasts ⟨2, ![64, n]⟩)
    (i : Fin 64) (k : Fin n) : broadcastTo ⟨2, ![64, n]⟩ v h (ix2 i k) = v (ix2 0 k) := by
  refine broadcastTo_apply v h _ _ fun a => ?_
  match a with
  | ⟨0, _⟩ => rfl
  | ⟨1, _⟩ => exact (if_neg hn).symm

end Cert.Rowwise
-- ==== Proof.KernelRow.lean ====
module

public import proofs.«01_k».proof.Proof.Rowwise
public import proofs.«01_k».proof.Proof.KernelBody

@[expose] public section

set_option maxRecDepth 16384

noncomputable section

open scoped BigOperators

namespace Cert.KernelIdeal.Row

open Idealize.ShloMosaic Idealize.ShloMosaic.ValueIdx Cert.KernelIdeal Cert.KernelIdeal.Gen Cert.Rowwise Cert.Exponent

/-- The widened rows are the rows. -/
theorem rows_eq (x : Vec Ideal S64x5120 .bf16) : (k0_pay4 x : FVec Ideal S64x5120 .f32) = x := by
  simp only [k0_pay4, shapeCast_self]; rfl

/-- The row maxima as a column. -/
theorem rowMax_eq (x : Vec Ideal S64x5120 .bf16) : k0_pay5 (F := Ideal) x = shapeCast S64x1 (rowMax x) shapeCasts_S64_S64x1 :=
  congrArg (fun y => shapeCast S64x1 (rowMax y) shapeCasts_S64_S64x1) (rows_eq x)

/-- The entry of row `i` in the column of row maxima. -/
theorem rowMax_apply (x : Vec Ideal S64x5120 .bf16) (i : Fin 64) : k0_pay5 (F := Ideal) x (ix2 i 0) = rowMax x (ix1 i) := by
  rw [rowMax_eq]; exact column_apply _ _ i 0

/-- The ratios. -/
theorem ratio_apply (x : Vec Ideal S64x5120 .bf16) (i : Fin 64) : k0_pay6 (F := Ideal) x (ix2 i 0) = ratio x i :=
  congrArg (fun a : EReal => a * Ideal.ofBits .f32 0x3B124925#32) (rowMax_apply x i)

/-- One step of the search on a column. -/
def stepOf (q : FVec Ideal S64x1 .f32) (b : IVec S64x1 32) (s : BitVec 32) : IVec S64x1 32 :=
  select (cmpf .oge q (bitcastToFloat .f32 (shli (addi b (broadcast S64x1 s)) (broadcast S64x1 23#32)))) (addi b (broadcast S64x1 s)) b

/-- A step on a column is the step at every entry. -/
theorem stepOf_apply (q : FVec Ideal S64x1 .f32) (b : IVec S64x1 32) (s : BitVec 32) (j : S64x1.Idx) :
    stepOf q b s j = step (q j) (b j) s := rfl

/-- The whole search on a column. -/
def searchOf (q : FVec Ideal S64x1 .f32) : IVec S64x1 32 :=
  stepOf q (stepOf q (stepOf q (stepOf q (stepOf q (stepOf q (stepOf q (stepOf q (broadcast S64x1 0#32) 128#32) 64#32) 32#32) 16#32) 8#32) 4#32) 2#32) 1#32

/-- The search on a column is the search at every entry. -/
theorem searchOf_apply (q : FVec Ideal S64x1 .f32) (j : S64x1.Idx) : searchOf q j = search (q j) := by
  simp only [searchOf, stepOf_apply]; rfl

/-- The kernel's search is that search. -/
theorem search_eq (x : Vec Ideal S64x5120 .bf16) :
    k0_pay10 (F := Ideal) (k0_pay6 x) (k0_pay7 x) (k0_pay8 x) k0_pay9 = searchOf (k0_pay6 x) := rfl

/-- The exponents as a function of the row maxima and the fields. -/
def exponentsOf (a : FVec Ideal S64x1 .f32) (b : IVec S64x1 32) : IVec S64x1 32 :=
  select (cmpf .oeq a (broadcast S64x1 (Scalar.ofBits .f32 0x00000000#32 : Ideal .f32))) (broadcast S64x1 0#32)
    (select (ori (cmpi .eq b (broadcast S64x1 0#32)) (cmpi .eq b (broadcast S64x1 255#32))) (broadcast S64x1 0#32)
      (subi b (broadcast S64x1 126#32)))

/-- The exponents on a column, at an entry. -/
theorem exponentsOf_apply (a q : FVec Ideal S64x1 .f32) (j : S64x1.Idx) : exponentsOf a (searchOf q) j = expBits (a j) (q j) := by
  unfold expBits
  rw [← searchOf_apply]
  rfl

/-- The kernel's exponents. -/
def exponents (x : Vec Ideal S64x5120 .bf16) : IVec S64x1 32 := exponentsOf (k0_pay5 x) (searchOf (k0_pay6 x))

/-- Row `i`'s exponent, from the row's greatest magnitude and its ratio. -/
theorem exponents_apply (x : Vec Ideal S64x5120 .bf16) (i : Fin 64) :
    exponents x (ix2 i 0) = expBits (rowMax x (ix1 i)) (ratio x i) := by
  unfold exponents
  rw [exponentsOf_apply, rowMax_apply, ratio_apply]

/-- The kernel's exponents are those of the column of ratios. -/
theorem exponents_eq (x : Vec Ideal S64x5120 .bf16) :
    k0_pay13 (F := Ideal) (k0_pay5 x) (k0_pay11 (k0_pay6 x) (k0_pay7 x) (k0_pay8 x) k0_pay9) (k0_pay12 (k0_pay6 x) (k0_pay7 x) (k0_pay8 x) k0_pay9)
      = exponents x := rfl

/-- Powers of two assembled as words, on a column. -/
def powersOf (e : IVec S64x1 32) : FVec Ideal S64x1 .f32 :=
  bitcastToFloat .f32 (select (cmpi .sle (addi e (broadcast S64x1 127#32)) (broadcast S64x1 0#32)) (broadcast S64x1 0#32)
    (select (cmpi .sge (addi e (broadcast S64x1 127#32)) (broadcast S64x1 255#32)) (broadcast S64x1 2139095040#32)
      (shli (addi e (broadcast S64x1 127#32)) (broadcast S64x1 23#32))))

/-- The powers on a column, at an entry. -/
theorem powersOf_apply (e : IVec S64x1 32) (j : S64x1.Idx) : powersOf e j = powBits (e j) := rfl

/-- The kernel's scales. -/
theorem scale_def (x : Vec Ideal S64x5120 .bf16) : Run.scale (F := Ideal) x = powersOf (exponents x) := rfl

/-- The kernel's scale of row `i` is the row's scale. -/
theorem scale_apply (x : Vec Ideal S64x5120 .bf16) (i : Fin 64) : Run.scale (F := Ideal) x (ix2 i 0) = scale x i := by
  rw [scale_def, powersOf_apply, exponents_apply]
  exact scale_eq _ _

/-- The kernel's inverse scales. -/
def inverses (x : Vec Ideal S64x5120 .bf16) : FVec Ideal S64x1 .f32 := powersOf (subi (broadcast S64x1 0#32) (exponents x))

/-- The kernel's inverse scale of row `i` is the row's inverse scale. -/
theorem inverses_apply (x : Vec Ideal S64x5120 .bf16) (i : Fin 64) : inverses x (ix2 i 0) = inverse x i := by
  have h : subi (broadcast S64x1 0#32) (exponents x) (ix2 i 0) = IntOp.subi 0#32 (expBits (rowMax x (ix1 i)) (ratio x i)) :=
    congrArg (IntOp.subi 0#32) (exponents_apply x i)
  unfold inverses
  rw [powersOf_apply, h]
  exact inv_eq _ _

/-- The codes as a function of the rows and the inverse scales. -/
def codesOf (x : FVec Ideal S64x5120 .f32) (v : FVec Ideal S64x1 .f32) : FVec Ideal S64x5120 .fp8e4m3 :=
  truncf .fp8e4m3 (minimumf (broadcast S64x5120 (Scalar.ofBits .f32 0x43E00000#32 : Ideal .f32))
    (maximumf (broadcast S64x5120 (Scalar.ofBits .f32 0xC3E00000#32 : Ideal .f32))
      (mulf x (broadcastTo S64x5120 v broadcasts_S64x1_S64x5120)))) bitsLt_fp8e4m3_f32

/-- The codes of a matrix under a column of inverse scales, at an entry. -/
theorem codesOf_apply (x : FVec Ideal S64x5120 .f32) (v : FVec Ideal S64x1 .f32) (i : Fin 64) (k : Fin 5120) :
    codesOf x v (ix2 i k) = min (Ideal.ofBits .f32 0x43E00000#32) (max (Ideal.ofBits .f32 0xC3E00000#32) (x (ix2 i k) * v (ix2 i 0))) := by
  rw [← broadcast_column v broadcasts_S64x1_S64x5120 i k]
  rfl

/-- The kernel's codes. -/
theorem codes_def (x : Vec Ideal S64x5120 .bf16) : Run.codes (F := Ideal) x = codesOf (k0_pay4 x) (inverses x) := rfl

/-- The kernel's codes are the rows' codes. -/
theorem codes_eq (x : Vec Ideal S64x5120 .bf16) : Run.codes (F := Ideal) x = codes x := by
  funext j
  obtain ⟨i, k, rfl⟩ : ∃ a b, j = ix2 a b := ⟨_, _, eq_ix2 j⟩
  rw [codes_def, codesOf_apply, inverses_apply, rows_eq]
  rfl

/-- The scales written out as a row. -/
theorem scales_eq (x : Vec Ideal S64x5120 .bf16) : k0_pay2 (F := Ideal) (Run.scale x) = scales x := by
  funext j
  obtain ⟨z, i, rfl⟩ : ∃ a b, j = ix2 a b := ⟨_, _, eq_ix2 j⟩
  refine Eq.trans ?_ (scale_apply x i)
  unfold k0_pay2
  generalize Run.scale (F := Ideal) x = v
  rw [shapeCast_self]
  refine (extractStridedSlice_apply _ _ _ _ (ix2 ⟨0, by decide⟩ i) fun a => ?_).trans ?_
  · match a with
    | ⟨0, _⟩ => show 0 = 0 + z.val; omega
    | ⟨1, _⟩ => show i.val = 0 + i.val; omega
  refine (transpose_apply _ _ _ _ (ix2 i ⟨0, by decide⟩) fun b => ?_).trans ?_
  · match b with
    | ⟨0, _⟩ => rfl
    | ⟨1, _⟩ => rfl
  exact broadcast_column v _ i _

/-- One block of outputs as a function of the codes, a block of the weight and the two scales. -/
def blockOf (q : FVec Ideal S64x5120 .fp8e4m3) (w : FVec Ideal S1024x5120 .fp8e4m3) (v : FVec Ideal S64x1 .f32) (s : FVec Ideal S1x1024 .f32) :
    FVec Ideal S64x1024 .bf16 :=
  truncf .bf16 (mulf (matmul dot_S64x5120_S1024x5120_S64x1024_1_1_0_0_n_n none (shapeCast S64x5120 q shapeCasts_S64x5120_S64x5120) w (constant S64x1024 .f32 0x00000000#32))
    (mulf (broadcastTo S64x1024 v broadcasts_S64x1_S64x1024)
      (broadcastTo S64x1024 (shapeCast S1x1024 s shapeCasts_S1x1024_S1x1024) broadcasts_S1x1024_S64x1024))) bitsLt_bf16_f32

/-- A block of outputs, at an entry: the product of two rows, times both scales. -/
theorem blockOf_apply (q : FVec Ideal S64x5120 .fp8e4m3) (w : FVec Ideal S1024x5120 .fp8e4m3) (v : FVec Ideal S64x1 .f32) (s : FVec Ideal S1x1024 .f32)
    (i : Fin 64) (n : Fin 1024) :
    blockOf q w v s (ix2 i n)
      = (Ideal.ofBits .f32 0x00000000#32 + ∑ k : Fin 5120, q (ix2 i k) * w (ix2 n k)) * (v (ix2 i 0) * s (ix2 0 n)) := by
  have h1 : matmul (F := Ideal) dot_S64x5120_S1024x5120_S64x1024_1_1_0_0_n_n none q w (constant S64x1024 .f32 0x00000000#32) (ix2 i n)
      = Ideal.ofBits .f32 0x00000000#32 + ∑ k : Fin 5120, q (ix2 i k) * w (ix2 n k) :=
    Ideal.matmul_transposedRhs_apply (M := 64) (K := 5120) (N := 1024) none q w _ i n
  rw [← h1, ← broadcast_column v broadcasts_S64x1_S64x1024 i n, ← broadcast_row (by decide) s broadcasts_S1x1024_S64x1024 i n]
  unfold blockOf
  rw [shapeCast_self, shapeCast_self]
  rfl

/-- One block of the kernel's outputs, entry by entry. -/
theorem block_apply (x : Vec Ideal S64x5120 .bf16) (w : Vec Ideal S1024x5120 .fp8e4m3) (s : Vec Ideal S1x1024 .f32) (i : Fin 64) (n : Fin 1024) :
    k0_pay3 (F := Ideal) (Run.codes x) w (Run.scale x) s (ix2 i n) = output x (fun k => w (ix2 n k)) (s (ix2 0 n)) i := by
  refine (blockOf_apply (Run.codes x) w (Run.scale x) s i n).trans ?_
  rw [codes_eq, scale_apply]
  rfl

end Cert.KernelIdeal.Row
-- ==== Proof.Results.lean ====
module

public import proofs.«01_k».proof.Proof.Rowwise

@[expose] public section

noncomputable section

namespace Cert.Rowwise

open Idealize.ShloMosaic

/-! The three results as the host hands them back, as functions of the arguments as the host receives them. -/

/-- The rows and the codes on the host. -/
abbrev HX : Shape := ⟨3, ![64, 1, 5120]⟩
/-- The weight's scales on the host. -/
abbrev HS : Shape := ⟨1, ![27648]⟩
/-- The outputs on the host. -/
abbrev HY : Shape := ⟨3, ![64, 1, 27648]⟩

/-- The rows on the host and as a matrix have equally many entries. -/
theorem casts_x : HX.ShapeCasts SX := by decide +kernel
/-- The weight's scales on the host and as a one-row matrix have equally many entries. -/
theorem casts_s : HS.ShapeCasts SS := by decide +kernel
/-- The outputs as a matrix and on the host have equally many entries. -/
theorem casts_y : SY.ShapeCasts HY := by decide +kernel
/-- The codes as a matrix and on the host have equally many entries. -/
theorem casts_codes : SX.ShapeCasts HX := by decide +kernel
/-- The scales as a row and as a column have equally many entries. -/
theorem casts_scales : (⟨2, ![1, 64]⟩ : Shape).ShapeCasts ⟨2, ![64, 1]⟩ := by decide +kernel

/-- The first result: the linear layer's outputs. -/
def result0 (x : HX.Idx → EReal) (w : SW.Idx → EReal) (s : HS.Idx → EReal) : HY.Idx → EReal :=
  shapeCast HY (outputs (shapeCast SX x casts_x) w (shapeCast SS s casts_s)) casts_y

/-- The second result: the codes. -/
def result1 (x : HX.Idx → EReal) : HX.Idx → EReal := shapeCast HX (codes (shapeCast SX x casts_x)) casts_codes

/-- The third result: the rows' scales. -/
def result2 (x : HX.Idx → EReal) : (⟨2, ![64, 1]⟩ : Shape).Idx → EReal :=
  shapeCast ⟨2, ![64, 1]⟩ (scales (shapeCast SX x casts_x)) casts_scales

end Cert.Rowwise

end
-- ==== Proof.KernelValue.lean ====
module

public import proofs.«01_k».proof.Proof.KernelRow
public import proofs.«01_k».proof.Proof.KernelRun
public import proofs.«01_k».proof.Proof.Results
public import Idealize.ShloMosaic.Lib.Pipeline.ValueKit.Geometry

@[expose] public section

set_option maxRecDepth 16384

noncomputable section

namespace Cert.KernelIdeal.Value

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Run Cert.Rowwise

variable (m : (ℓ : Loc nD τ sig) → Buf (Elt Ideal) ℓ) (ρ : Dev nD → PrngReg)

/-! ## Where the blocks lie -/

/-- The block of rows is the same at every point. -/
theorem index0 : ∀ t : Fin cfg0.N, win0_0.index t = ![0, 0] := (by decide +kernel : ∀ t : Fin grid0.N, _)
/-- The block of the weight at point `t` is the `t`-th block of 1024 rows. -/
theorem index1 : ∀ t : Fin cfg0.N, win0_1.index t = ![t.val, 0] := (by decide +kernel : ∀ t : Fin grid0.N, _)
/-- The block of the weight's scales at point `t` is the `t`-th block of 1024 columns. -/
theorem index2 : ∀ t : Fin cfg0.N, win0_2.index t = ![0, t.val] := (by decide +kernel : ∀ t : Fin grid0.N, _)
/-- The block of outputs at point `t` is the `t`-th block of 1024 columns. -/
theorem index3 : ∀ t : Fin cfg0.N, win0_3.index t = ![0, t.val] := (by decide +kernel : ∀ t : Fin grid0.N, _)
/-- The block of codes is the same at every point. -/
theorem index4 : ∀ t : Fin cfg0.N, win0_4.index t = ![0, 0] := (by decide +kernel : ∀ t : Fin grid0.N, _)
/-- The block of scales is the same at every point. -/
theorem index5 : ∀ t : Fin cfg0.N, win0_5.index t = ![0, 0] := (by decide +kernel : ∀ t : Fin grid0.N, _)

/-- The rows as the region finds them are the whole array of window 0. -/
theorem rows_eq (c : Dev nD) : rows m c = V m c main_v0 := by
  funext y
  unfold rows
  blk_simp [iblk]
  refine congrArg (V m c main_v0) ?_
  blk_ext [index0]

/-- The block of weight rows at a point, at an index: that row of the weight. -/
theorem weight_apply (c : Dev nD) (t : Fin cfg0.N) (n : Fin 1024) (k : Fin 5120) (N : Fin 27648) (h : N.val = t.val * 1024 + n.val) :
    iblk m c 1 t (ix2 (n0 := 1024) (n1 := 5120) n k) = V m c main_arg1 (ix2 (n0 := 27648) (n1 := 5120) N k) := by
  blk_simp [iblk]
  refine congrArg (V m c main_arg1) ?_
  blk_ext [index1]
  exact h.symm

/-- The block of the weight's scales at a point, at an index: that entry of the weight's scales. -/
theorem weightScale_apply (c : Dev nD) (t : Fin cfg0.N) (n : Fin 1024) (N : Fin 27648) (h : N.val = t.val * 1024 + n.val) :
    iblk m c 2 t (ix2 (n0 := 1) (n1 := 1024) 0 n) = V m c main_v1 (ix2 (n0 := 1) (n1 := 27648) 0 N) := by
  blk_simp [iblk]
  refine congrArg (V m c main_v1) ?_
  blk_ext [index2]
  exact h.symm

/-! ## The three result arrays of the region -/

/-- The outputs' array after the run. -/
theorem final3 (c : Dev nD) : (dats m 0 c).arrAt 3 cfg0.N = outputs (V m c main_v0) (V m c main_arg1) (V m c main_v1) := by
  refine (dats m 0 c).arrAt_eq_of_covers 3 _ (by decide +kernel) fun t hf y => ?_
  blk_simp
  rw [after3, rows_eq]
  have hy : y = ix2 (n0 := 64) (n1 := 1024) (y 0) (y 1) := eq_ix2 y
  have hn : (y 1).val < 1024 := (y 1).isLt
  have ht : t.val < 27 := Nat.lt_of_lt_of_eq t.isLt N_0
  obtain ⟨N, hN⟩ : ∃ N : Fin 27648, N.val = t.val * 1024 + (y 1).val := ⟨⟨t.val * 1024 + (y 1).val, by omega⟩, rfl⟩
  have he : (win0_3.blk t).view.emb y = ix2 (n0 := 64) (n1 := 27648) (y 0) N := by
    blk_ext [index3]
    exact hN.symm
  refine (congrArg (k0_pay3 (F := Ideal) (Run.codes (V m c main_v0)) (iblk m c 1 t) (Run.scale (V m c main_v0)) (iblk m c 2 t)) hy).trans ?_
  refine (Row.block_apply (V m c main_v0) (iblk m c 1 t) (iblk m c 2 t) (y 0) (y 1)).trans ?_
  refine .trans ?_ (congrArg (outputs (V m c main_v0) (V m c main_arg1) (V m c main_v1)) he.symm)
  exact (congrArg (fun w => output (V m c main_v0) w _ (y 0)) (funext fun k => weight_apply m c t (y 1) k N hN)).trans
    (congrArg (fun s => output (V m c main_v0) _ s (y 0)) (weightScale_apply m c t (y 1) N hN))

/-- The codes' array after the run. -/
theorem final4 (c : Dev nD) : (dats m 0 c).arrAt 4 cfg0.N = Rowwise.codes (V m c main_v0) := by
  refine (dats m 0 c).arrAt_eq_of_covers 4 _ (by decide +kernel) fun t hf y => ?_
  blk_simp
  rw [after4, rows_eq, Row.codes_eq]
  refine congrArg (Rowwise.codes (V m c main_v0)) ?_
  blk_ext [index4]

/-- The scales' array after the run. -/
theorem final5 (c : Dev nD) : (dats m 0 c).arrAt 5 cfg0.N = Rowwise.scales (V m c main_v0) := by
  refine (dats m 0 c).arrAt_eq_of_covers 5 _ (by decide +kernel) fun t hf y => ?_
  blk_simp
  rw [after5, rows_eq, Row.scales_eq]
  refine congrArg (Rowwise.scales (V m c main_v0)) ?_
  blk_ext [index5]

/-! ## What the host prepares and what it hands back -/

/-- The region finds the rows of the first argument as a matrix. -/
theorem V_v0 (c : Dev nD) : V m c main_v0 = shapeCast SX (m ((c.tc : Thread nD τ).loc main_arg0)) casts_x := by
  show StableHlo.after hostOps0 (fun b => m (c, b)) (Proc.devRef .tc main_v0) = _
  after_results
  rfl

/-- The region finds the weight's scales as a one-row matrix. -/
theorem V_v1 (c : Dev nD) : V m c main_v1 = shapeCast SS (m ((c.tc : Thread nD τ).loc main_arg2)) casts_s := by
  show StableHlo.after hostOps0 (fun b => m (c, b)) (Proc.devRef .tc main_v1) = _
  after_results
  rfl

/-- The windows' arrays are six different buffers. -/
theorem arrays_inj : Function.Injective (Pipeline.arrRef spec0) := by
  have h : ∀ a b : Fin 6, Pipeline.arrRef spec0 a = Pipeline.arrRef spec0 b → a = b := by decide +kernel
  exact fun a b => h a b

/-- What the region leaves in a result array is what the host goes on with. -/
theorem array_after (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 arrays_inj c (V0 m c) _ w

/-- The first result as the host hands it back. -/
theorem tail3 (c : Dev nD) : Pipeline.afterTail₀ cfgs (dats m) 0 (V0 m) [hostOps1] c main_v3
    = result0 (m ((c.tc : Thread nD τ).loc main_arg0)) (m ((c.tc : Thread nD τ).loc main_arg1)) (m ((c.tc : Thread nD τ).loc main_arg2)) := by
  show StableHlo.after hostOps1 (Pipeline.withArrays spec0 c (V0 m c) fun w => (dats m 0 c).arrAt w cfg0.N) (Proc.devRef .tc main_v3) = _
  after_results
  have h := (array_after m c 3).trans (final3 m c)
  rw [V_v0, V_v1, V_main_arg1] at h
  exact congrArg (fun z => shapeCast HY z casts_y) h

/-- The second result as the host hands it back. -/
theorem tail4 (c : Dev nD) : Pipeline.afterTail₀ cfgs (dats m) 0 (V0 m) [hostOps1] c main_v4
    = result1 (m ((c.tc : Thread nD τ).loc main_arg0)) := by
  show StableHlo.after hostOps1 (Pipeline.withArrays spec0 c (V0 m c) fun w => (dats m 0 c).arrAt w cfg0.N) (Proc.devRef .tc main_v4) = _
  after_results
  have h := (array_after m c 4).trans (final4 m c)
  rw [V_v0] at h
  exact congrArg (fun z => shapeCast HX z casts_codes) h

/-- The third result as the host hands it back. -/
theorem tail5 (c : Dev nD) : Pipeline.afterTail₀ cfgs (dats m) 0 (V0 m) [hostOps1] c main_v5
    = result2 (m ((c.tc : Thread nD τ).loc main_arg0)) := by
  show StableHlo.after hostOps1 (Pipeline.withArrays spec0 c (V0 m c) fun w => (dats m 0 c).arrAt w cfg0.N) (Proc.devRef .tc main_v5) = _
  after_results
  have h := (array_after m c 5).trans (final5 m c)
  rw [V_v0] at h
  exact congrArg (fun z => shapeCast ⟨2, ![64, 1]⟩ z casts_scales) h

/-- The run: the program ends with the three results as functions of its arguments, and its arguments as they were. -/
theorem run : θ_run defs (onTc (τ := τ) (main (F := Ideal))) ⟨m, fun _ => 0, ρ⟩ fun r => ∀ c : Dev nD,
    r.2.mem ((c.tc : Thread nD τ).loc main_v3)
        = result0 (m ((c.tc : Thread nD τ).loc main_arg0)) (m ((c.tc : Thread nD τ).loc main_arg1)) (m ((c.tc : Thread nD τ).loc main_arg2))
      ∧ r.2.mem ((c.tc : Thread nD τ).loc main_v4) = result1 (m ((c.tc : Thread nD τ).loc main_arg0))
      ∧ r.2.mem ((c.tc : Thread nD τ).loc main_v5) = result2 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h.rest_eq c main_v3 (Pipeline.mem_restRefs_of main_v3 (by decide) (by decide))).trans (tail3 m c),
      (h.rest_eq c main_v4 (Pipeline.mem_restRefs_of main_v4 (by decide) (by decide))).trans (tail4 m c),
      (h.rest_eq c main_v5 (Pipeline.mem_restRefs_of main_v5 (by decide) (by decide))).trans (tail5 m c),
      (h.rest_eq c main_arg0 (Pipeline.mem_restRefs_of main_arg0 (by decide) (by decide))).trans (W_main_arg0 m (dats m) c),
      (h.in_eq c 1 rfl).trans ((A_eq m c 1).trans (V_main_arg1 m c)),
      (h.rest_eq c main_arg2 (Pipeline.mem_restRefs_of main_arg2 (by decide) (by decide))).trans (W_main_arg2 m (dats m) c)⟩) (run_main m ρ)

end Cert.KernelIdeal.Value

end
-- ==== Proof.ReferenceRow.lean ====
module

public import proofs.«01_k».proof.Proof.Rowwise
public import proofs.«01_k».proof.Proof.Gen.ReferenceIdeal.Skeleton

@[expose] public section

set_option maxRecDepth 16384

noncomputable section

namespace Cert.ReferenceIdeal.Row

open scoped BigOperators
open Idealize.ShloMosaic Idealize.ShloMosaic.ValueIdx Cert.ReferenceIdeal Cert.ReferenceIdeal.Gen Cert.Rowwise Cert.Exponent

/-- The widened rows are the rows. -/
theorem rows_eq (x : Vec Ideal S64x5120 .bf16) : (k0_pay4 x : FVec Ideal S64x5120 .f32) = x := by
  simp only [k0_pay4, shapeCast_self]; rfl

/-- The row maxima are the row maxima. -/
theorem rowMax_eq (x : Vec Ideal S64x5120 .bf16) :
    multiReduction (F := Ideal) .maximumf [1] S64 (absf (k0_pay4 x)) 0xFF800000#32 reduces_S64x5120_S64 (.inl rfl) rfl = rowMax x :=
  congrArg rowMax (rows_eq x)

/-- The exponents as a function of the row maxima. -/
def exponentsOf (a : FVec Ideal S64 .f32) : FVec Ideal S64 .f32 :=
  let q := mulf a (broadcast S64 (Scalar.ofBits .f32 0x3B124925#32 : Ideal .f32))
  select (cmpf .oeq a (broadcast S64 (Scalar.ofBits .f32 0x00000000#32 : Ideal .f32))) (broadcast S64 (Scalar.ofBits .f32 0x00000000#32 : Ideal .f32))
    (select (ori (cmpf .olt q (broadcast S64 (Scalar.ofBits .f32 0x00800000#32 : Ideal .f32)))
        (cmpf .oeq q (broadcast S64 (Scalar.ofBits .f32 0x7F800000#32 : Ideal .f32))))
      (broadcast S64 (Scalar.ofBits .f32 0x00000000#32 : Ideal .f32))
      (addf (floor (divf (log q) (broadcast S64 (Scalar.log (Scalar.ofBits .f32 0x40000000#32 : Ideal .f32)))))
        (broadcast S64 (Scalar.ofBits .f32 0x3F800000#32 : Ideal .f32))))

/-- The exponent of one row. -/
theorem exponentsOf_apply (a : FVec Ideal S64 .f32) (i : Fin 64) :
    exponentsOf a (ix1 i) = expReal (a (ix1 i)) (a (ix1 i) * Ideal.ofBits .f32 0x3B124925#32) := rfl

/-- The exponents are those of the row maxima. -/
theorem exponents_eq (x : Vec Ideal S64x5120 .bf16) : k0_pay5 (F := Ideal) x = exponentsOf (rowMax x) :=
  congrArg exponentsOf (rowMax_eq x)

/-- The reference's exponents, row by row. -/
theorem exponent_eq (x : Vec Ideal S64x5120 .bf16) (i : Fin 64) : k0_pay5 (F := Ideal) x (ix1 i) = exponent x i :=
  (congrFun (exponents_eq x) (ix1 i)).trans (exponentsOf_apply (rowMax x) i)

/-- Powers of two with the ends of the range, as vectors. -/
def powersOf (e : FVec Ideal S64 .f32) : FVec Ideal S64 .f32 :=
  select (cmpf .oge e (broadcast S64 (Scalar.ofBits .f32 0x43000000#32 : Ideal .f32))) (broadcast S64 (Scalar.ofBits .f32 0x7F800000#32 : Ideal .f32))
    (select (cmpf .ole e (broadcast S64 (Scalar.ofBits .f32 0xC2FE0000#32 : Ideal .f32)))
      (broadcast S64 (Scalar.ofBits .f32 0x00000000#32 : Ideal .f32)) (exp2 e))

/-- The power at one row. -/
theorem powersOf_apply (e : FVec Ideal S64 .f32) (i : Fin 64) : powersOf e (ix1 i) = powReal (e (ix1 i)) := rfl

/-- Its scales. -/
theorem scale_eq (x : Vec Ideal S64x5120 .bf16) (i : Fin 64) : k0_pay6 (F := Ideal) x (ix1 i) = scale x i :=
  (powersOf_apply (k0_pay5 x) i).trans (congrArg powReal (exponent_eq x i))

/-- Its inverse scales. -/
def inverses (x : Vec Ideal S64x5120 .bf16) : FVec Ideal S64 .f32 := powersOf (k0_pay7 x)

/-- The inverse scale of one row. -/
theorem inverse_eq (x : Vec Ideal S64x5120 .bf16) (i : Fin 64) : inverses x (ix1 i) = inverse x i :=
  (powersOf_apply (k0_pay7 x) i).trans (congrArg (fun e => powReal (Ideal.ofBits .f32 0x00000000#32 - e)) (exponent_eq x i))

/-- Its scales as a row. -/
theorem scales_eq (x : Vec Ideal S64x5120 .bf16) : k0_pay3 (F := Ideal) (k0_pay6 x) = scales x := by
  funext j
  obtain ⟨z, i, rfl⟩ : ∃ a b, j = ix2 a b := ⟨_, _, eq_ix2 j⟩
  unfold k0_pay3 scales
  rw [row_apply, scale_eq]

/-- The codes as a function of the rows and the inverse scales. -/
def codesOf (x : FVec Ideal S64x5120 .f32) (v : FVec Ideal S64 .f32) : FVec Ideal S64x5120 .fp8e4m3 :=
  truncf .fp8e4m3 (minimumf (broadcast S64x5120 (Scalar.ofBits .f32 0x43E00000#32 : Ideal .f32))
    (maximumf (broadcast S64x5120 (Scalar.ofBits .f32 0xC3E00000#32 : Ideal .f32))
      (mulf x (broadcastTo S64x5120 (shapeCast S64x1 v shapeCasts_S64_S64x1) broadcasts_S64x1_S64x5120)))) bitsLt_fp8e4m3_f32

/-- The codes of a matrix under a vector of inverse scales, at an entry. -/
theorem codesOf_apply (x : FVec Ideal S64x5120 .f32) (v : FVec Ideal S64 .f32) (i : Fin 64) (k : Fin 5120) :
    codesOf x v (ix2 i k) = min (Ideal.ofBits .f32 0x43E00000#32) (max (Ideal.ofBits .f32 0xC3E00000#32) (x (ix2 i k) * v (ix1 i))) := by
  rw [← column_apply v shapeCasts_S64_S64x1 i 0, ← broadcast_column (shapeCast S64x1 v shapeCasts_S64_S64x1) broadcasts_S64x1_S64x5120 i k]
  rfl

/-- Its codes. -/
theorem code_eq (x : Vec Ideal S64x5120 .bf16) (i : Fin 64) (k : Fin 5120) :
    k0_pay1 (F := Ideal) (k0_pay4 x) (k0_pay8 x) (k0_pay9 x) (k0_pay10 x) (Scalar.ofBits .f32 0x00000000#32) (ix2 i k) = code x i k := by
  refine (codesOf_apply (k0_pay4 x) (inverses x) i k).trans ?_
  rw [inverse_eq, rows_eq]; rfl

/-- Its codes as one array. -/
theorem codes_eq (x : Vec Ideal S64x5120 .bf16) :
    k0_pay1 (F := Ideal) (k0_pay4 x) (k0_pay8 x) (k0_pay9 x) (k0_pay10 x) (Scalar.ofBits .f32 0x00000000#32) = codes x := by
  funext j
  obtain ⟨i, k, rfl⟩ : ∃ a b, j = ix2 a b := ⟨_, _, eq_ix2 j⟩
  exact code_eq x i k

/-- The outputs as a function of the codes, the weight and the two scales. -/
def outputsOf (q : FVec Ideal S64x5120 .fp8e4m3) (w : FVec Ideal S27648x5120 .fp8e4m3) (v : FVec Ideal S64 .f32) (s : FVec Ideal S1x27648 .f32) :
    FVec Ideal S64x27648 .bf16 :=
  truncf .bf16 (mulf (matmul dot_S64x5120_S27648x5120_S64x27648_1_1_0_0_n_n none q w (constant S64x27648 .f32 0x00000000#32))
    (mulf (broadcastTo S64x27648 (shapeCast S64x1 v shapeCasts_S64_S64x1) broadcasts_S64x1_S64x27648)
      (broadcastTo S64x27648 (shapeCast S1x27648 s shapeCasts_S1x27648_S1x27648) broadcasts_S1x27648_S64x27648))) bitsLt_bf16_f32

/-- The outputs at an entry: the product of two rows, times both scales. -/
theorem outputsOf_apply (q : FVec Ideal S64x5120 .fp8e4m3) (w : FVec Ideal S27648x5120 .fp8e4m3) (v : FVec Ideal S64 .f32) (s : FVec Ideal S1x27648 .f32)
    (i : Fin 64) (n : Fin 27648) :
    outputsOf q w v s (ix2 i n)
      = (Ideal.ofBits .f32 0x00000000#32 + ∑ k : Fin 5120, q (ix2 i k) * w (ix2 n k)) * (v (ix1 i) * s (ix2 0 n)) := by
  have h1 : matmul (F := Ideal) dot_S64x5120_S27648x5120_S64x27648_1_1_0_0_n_n none q w (constant S64x27648 .f32 0x00000000#32) (ix2 i n)
      = Ideal.ofBits .f32 0x00000000#32 + ∑ k : Fin 5120, q (ix2 i k) * w (ix2 n k) :=
    Ideal.matmul_transposedRhs_apply (M := 64) (K := 5120) (N := 27648) none q w _ i n
  rw [← h1, ← column_apply v shapeCasts_S64_S64x1 i 0, ← broadcast_column (shapeCast S64x1 v shapeCasts_S64_S64x1) broadcasts_S64x1_S64x27648 i n,
    ← broadcast_row (by decide) s broadcasts_S1x27648_S64x27648 i n]
  unfold outputsOf
  rw [shapeCast_self]
  rfl

/-- Its outputs as one array. -/
theorem outputs_eq (x : Vec Ideal S64x5120 .bf16) (w : Vec Ideal S27648x5120 .fp8e4m3) (s : Vec Ideal S1x27648 .f32) :
    k0_pay2 (F := Ideal) (k0_pay4 x) (k0_pay6 x) (k0_pay8 x) (k0_pay9 x) (k0_pay10 x) (Scalar.ofBits .f32 0x00000000#32) w s = outputs x w s := by
  funext j
  obtain ⟨i, n, rfl⟩ : ∃ a b, j = ix2 a b := ⟨_, _, eq_ix2 j⟩
  refine (outputsOf_apply (k0_pay1 (k0_pay4 x) (k0_pay8 x) (k0_pay9 x) (k0_pay10 x) (Scalar.ofBits .f32 0x00000000#32)) w (k0_pay6 x) s i n).trans ?_
  rw [scale_eq, codes_eq]
  rfl

end Cert.ReferenceIdeal.Row
-- ==== Proof.ReferenceValue.lean ====
module

public import proofs.«01_k».proof.Proof.ReferenceRow
public import proofs.«01_k».proof.Proof.Results
public import proofs.«01_k».proof.Proof.Gen.ReferenceIdeal.Frame
public import proofs.«01_k».proof.Proof.Gen.ReferenceIdeal.Points
public import Idealize.ShloMosaic.Lib.Pipeline.ValueKit.Geometry

@[expose] public section

set_option maxRecDepth 16384

noncomputable section

namespace Cert.ReferenceIdeal.Value

open Idealize.ShloMosaic Idealize.ShloMosaic.TcCoe Idealize.ShloMosaic.ValueIdx
open Idealize.SL Idealize.SL.Sem
open Idealize.ShloMosaic.Pipeline (Dat)
open Cert.ReferenceIdeal Cert.ReferenceIdeal.Gen Cert.Rowwise

variable (m : (ℓ : Loc nD τ sig) → Buf (Elt Ideal) ℓ) (ρ : Dev nD → PrngReg)

/-! ## Every block is its whole array -/

/-- The block of rows starts at the array's first entry. -/
theorem index0 : ∀ t : Fin cfg0.N, win0_0.index t = ![0, 0] := (by decide +kernel : ∀ t : Fin grid0.N, _)
/-- The block of the weight starts at the array's first entry. -/
theorem index1 : ∀ t : Fin cfg0.N, win0_1.index t = ![0, 0] := (by decide +kernel : ∀ t : Fin grid0.N, _)
/-- The block of the weight's scales starts at the array's first entry. -/
theorem index2 : ∀ t : Fin cfg0.N, win0_2.index t = ![0, 0] := (by decide +kernel : ∀ t : Fin grid0.N, _)
/-- The block of outputs starts at the array's first entry. -/
theorem index3 : ∀ t : Fin cfg0.N, win0_3.index t = ![0, 0] := (by decide +kernel : ∀ t : Fin grid0.N, _)
/-- The block of codes starts at the array's first entry. -/
theorem index4 : ∀ t : Fin cfg0.N, win0_4.index t = ![0, 0] := (by decide +kernel : ∀ t : Fin grid0.N, _)
/-- The block of scales starts at the array's first entry. -/
theorem index5 : ∀ t : Fin cfg0.N, win0_5.index t = ![0, 0] := (by decide +kernel : ∀ t : Fin grid0.N, _)

/-- The rows as the region finds them. -/
theorem block0 (c : Dev nD) (t : Fin cfg0.N) : iblk m c 0 t = V m c main_v0 := by
  funext y
  blk_simp [iblk]
  refine congrArg (V m c main_v0) ?_
  blk_ext [index0]

/-- The weight as the region finds it. -/
theorem block1 (c : Dev nD) (t : Fin cfg0.N) : iblk m c 1 t = V m c main_arg1 := by
  funext y
  blk_simp [iblk]
  refine congrArg (V m c main_arg1) ?_
  blk_ext [index1]

/-- The weight's scales as the region finds them. -/
theorem block2 (c : Dev nD) (t : Fin cfg0.N) : iblk m c 2 t = V m c main_v1 := by
  funext y
  blk_simp [iblk]
  refine congrArg (V m c main_v1) ?_
  blk_ext [index2]

/-- The offset of a load or store of a whole buffer is zero on both axes. -/
theorem origin : (![0, 0] : Fin 2 → Nat) = fun _ => 0 := funext fun a => by fin_cases a <;> rfl

/-- What the body stores as outputs. -/
theorem out3_eq (x : Vec Ideal S64x5120 .bf16) (w : Vec Ideal S27648x5120 .fp8e4m3) (s : Vec Ideal S1x27648 .f32) :
    out0_3 x w s = outputs x w s := by
  unfold out0_3 k0_pay11 k0_pay12 k0_pay13 k0_pay14 k0_pay15
  rw [View.canon_unit_zero origin, View.ld_unit_zero origin, View.ld_unit_zero origin, View.ld_unit_zero origin]
  exact Row.outputs_eq x w s

/-- What the body stores as codes. -/
theorem out4_eq (x : Vec Ideal S64x5120 .bf16) (w : Vec Ideal S27648x5120 .fp8e4m3) (s : Vec Ideal S1x27648 .f32) :
    out0_4 x w s = Rowwise.codes x := by
  unfold out0_4 k0_pay11 k0_pay13 k0_pay14 k0_pay15
  rw [View.canon_unit_zero origin, View.ld_unit_zero origin]
  exact Row.codes_eq x

/-- What the body stores as scales. -/
theorem out5_eq (x : Vec Ideal S64x5120 .bf16) (w : Vec Ideal S27648x5120 .fp8e4m3) (s : Vec Ideal S1x27648 .f32) :
    out0_5 x w s = Rowwise.scales x := by
  unfold out0_5 k0_pay12
  rw [View.canon_unit_zero origin, View.ld_unit_zero origin]
  exact Row.scales_eq x

/-! ## The three result arrays of the region -/

/-- The outputs' array after the run. -/
theorem final3 (c : Dev nD) : (dats m 0 c).arrAt 3 cfg0.N = outputs (V m c main_v0) (V m c main_arg1) (V m c main_v1) := by
  refine (dats m 0 c).arrAt_eq_of_covers 3 _ (by decide +kernel) fun t hf y => ?_
  blk_simp
  rw [after0_3, block0, block1, block2, out3_eq]
  refine congrArg (outputs (V m c main_v0) (V m c main_arg1) (V m c main_v1)) ?_
  blk_ext [index3]

/-- The codes' array after the run. -/
theorem final4 (c : Dev nD) : (dats m 0 c).arrAt 4 cfg0.N = Rowwise.codes (V m c main_v0) := by
  refine (dats m 0 c).arrAt_eq_of_covers 4 _ (by decide +kernel) fun t hf y => ?_
  blk_simp
  rw [after0_4, block0, block1, block2, out4_eq]
  refine congrArg (Rowwise.codes (V m c main_v0)) ?_
  blk_ext [index4]

/-- The scales' array after the run. -/
theorem final5 (c : Dev nD) : (dats m 0 c).arrAt 5 cfg0.N = Rowwise.scales (V m c main_v0) := by
  refine (dats m 0 c).arrAt_eq_of_covers 5 _ (by decide +kernel) fun t hf y => ?_
  blk_simp
  rw [after0_5, block0, block1, block2, out5_eq]
  refine congrArg (Rowwise.scales (V m c main_v0)) ?_
  blk_ext [index5]

/-! ## What the host prepares and what it hands back -/

/-- The region finds the rows of the first argument as a matrix. -/
theorem V_v0 (c : Dev nD) : V m c main_v0 = shapeCast SX (m ((c.tc : Thread nD τ).loc main_arg0)) casts_x := by
  show StableHlo.after hostOps0 (fun b => m (c, b)) (Proc.devRef .tc main_v0) = _
  after_results
  rfl

/-- The region finds the weight's scales as a one-row matrix. -/
theorem V_v1 (c : Dev nD) : V m c main_v1 = shapeCast SS (m ((c.tc : Thread nD τ).loc main_arg2)) casts_s := by
  show StableHlo.after hostOps0 (fun b => m (c, b)) (Proc.devRef .tc main_v1) = _
  after_results
  rfl

/-- The windows' arrays are six different buffers. -/
theorem arrays_inj : Function.Injective (Pipeline.arrRef spec0) := by
  have h : ∀ a b : Fin 6, Pipeline.arrRef spec0 a = Pipeline.arrRef spec0 b → a = b := by decide +kernel
  exact fun a b => h a b

/-- What the region leaves in a result array is what the host goes on with. -/
theorem array_after (c : Dev nD) (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 arrays_inj c (V0 m c) _ w

/-- The first result as the host hands it back. -/
theorem tail3 (c : Dev nD) : Pipeline.afterTail₀ cfgs (dats m) 0 (V0 m) [hostOps1] c main_v3
    = result0 (m ((c.tc : Thread nD τ).loc main_arg0)) (m ((c.tc : Thread nD τ).loc main_arg1)) (m ((c.tc : Thread nD τ).loc main_arg2)) := by
  show StableHlo.after hostOps1 (Pipeline.withArrays spec0 c (V0 m c) fun w => (dats m 0 c).arrAt w cfg0.N) (Proc.devRef .tc main_v3) = _
  after_results
  have h := (array_after m c 3).trans (final3 m c)
  rw [V_v0, V_v1, V_main_arg1] at h
  exact congrArg (fun z => shapeCast HY z casts_y) h

/-- The second result as the host hands it back. -/
theorem tail4 (c : Dev nD) : Pipeline.afterTail₀ cfgs (dats m) 0 (V0 m) [hostOps1] c main_v4
    = result1 (m ((c.tc : Thread nD τ).loc main_arg0)) := by
  show StableHlo.after hostOps1 (Pipeline.withArrays spec0 c (V0 m c) fun w => (dats m 0 c).arrAt w cfg0.N) (Proc.devRef .tc main_v4) = _
  after_results
  have h := (array_after m c 4).trans (final4 m c)
  rw [V_v0] at h
  exact congrArg (fun z => shapeCast HX z casts_codes) h

/-- The third result as the host hands it back. -/
theorem tail5 (c : Dev nD) : Pipeline.afterTail₀ cfgs (dats m) 0 (V0 m) [hostOps1] c main_v5
    = result2 (m ((c.tc : Thread nD τ).loc main_arg0)) := by
  show StableHlo.after hostOps1 (Pipeline.withArrays spec0 c (V0 m c) fun w => (dats m 0 c).arrAt w cfg0.N) (Proc.devRef .tc main_v5) = _
  after_results
  have h := (array_after m c 5).trans (final5 m c)
  rw [V_v0] at h
  exact congrArg (fun z => shapeCast ⟨2, ![64, 1]⟩ z casts_scales) h

/-- The run: the program ends with the three results as functions of its arguments, and its arguments as they were. -/
theorem run : θ_run defs (onTc (τ := τ) (main (F := Ideal))) ⟨m, fun _ => 0, ρ⟩ fun r => ∀ c : Dev nD,
    r.2.mem ((c.tc : Thread nD τ).loc main_v3)
        = result0 (m ((c.tc : Thread nD τ).loc main_arg0)) (m ((c.tc : Thread nD τ).loc main_arg1)) (m ((c.tc : Thread nD τ).loc main_arg2))
      ∧ r.2.mem ((c.tc : Thread nD τ).loc main_v4) = result1 (m ((c.tc : Thread nD τ).loc main_arg0))
      ∧ r.2.mem ((c.tc : Thread nD τ).loc main_v5) = result2 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h.rest_eq c main_v3 (Pipeline.mem_restRefs_of main_v3 (by decide) (by decide))).trans (tail3 m c),
      (h.rest_eq c main_v4 (Pipeline.mem_restRefs_of main_v4 (by decide) (by decide))).trans (tail4 m c),
      (h.rest_eq c main_v5 (Pipeline.mem_restRefs_of main_v5 (by decide) (by decide))).trans (tail5 m c),
      (h.rest_eq c main_arg0 (Pipeline.mem_restRefs_of main_arg0 (by decide) (by decide))).trans (W_main_arg0 m (dats m) c),
      (h.in_eq c 1 rfl).trans ((A_eq m c 1).trans (V_main_arg1 m c)),
      (h.rest_eq c main_arg2 (Pipeline.mem_restRefs_of main_arg2 (by decide) (by decide))).trans (W_main_arg2 m (dats m) c)⟩) (run_main m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelRun
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The kernel and the reference, from equal arguments, end with equal outputs, equal codes and equal scales. -/
theorem algebraic : Cert.algebraic_KernelIdeal_ReferenceIdeal := by
  intro m g m' g' _ agree
  refine ⟨fun c => Cert.Rowwise.result0 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Rowwise.result1 (m ((c.tc : Thread Cert.KernelIdeal.nD Cert.KernelIdeal.τ).loc Cert.KernelIdeal.main_arg0)),
    fun c => Cert.Rowwise.result2 (m ((c.tc : Thread Cert.KernelIdeal.nD Cert.KernelIdeal.τ).loc Cert.KernelIdeal.main_arg0)),
    Cert.KernelIdeal.Value.run m g, ?_⟩
  refine (θ_run _ _ _).mono (fun r h c => ?_) (Cert.ReferenceIdeal.Value.run m' g')
  obtain ⟨h0, h1, h2, k0, k1, k2⟩ := h c
  obtain ⟨e0, e1, e2⟩ := agree c
  rw [e0, e1, e2] at h0
  rw [e0] at h1 h2
  exact ⟨h0, h1, h2, k0, k1, k2⟩

/-- Everything the certificate claims. -/
theorem claim : Cert.Claim := ⟨Cert.Kernel.Gen.facts, Cert.KernelIdeal.Gen.facts, Cert.ReferenceIdeal.Gen.facts,
  Cert.KernelFrame.frame,
  fun m ρ _ => Cert.KernelIdeal.Run.frame m ρ,
  fun m ρ _ => Cert.ReferenceIdeal.Gen.frame m ρ,
  trivial,
  algebraic⟩

end Cert.Proof

end
